-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normalised [hPre_normalised : Cert.Pre_normalised.Facts] (m : (ℓ : Loc Cert.KernelIdeal.nD Cert.KernelIdeal.τ Cert.KernelIdeal.sig) → Buf (Elt Ideal) ℓ) : Prop :=
  ∀ c : Dev Cert.KernelIdeal.nD,
    (Cert.Pre_normalised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normalised [hPre_normalised : Cert.Pre_normalised.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normalised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_normalised [hKernelIdeal : Cert.KernelIdeal.Facts] [hPre_normalised : Cert.Pre_normalised.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normalised m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_normalised [hReferenceIdeal : Cert.ReferenceIdeal.Facts] [hPre_normalised : Cert.Pre_normalised.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normalised m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_normalised [hKernelIdeal : Cert.KernelIdeal.Facts] [hReferenceIdeal : Cert.ReferenceIdeal.Facts] [hPre_normalised : Cert.Pre_normalised.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normalised m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_v260) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_normalised : Cert.Pre_normalised.Facts),
    quiescent_Kernel (hKernel := hKernel)
    ∧ quiescent_KernelIdeal (hKernelIdeal := hKernelIdeal)
    ∧ quiescent_KernelIdeal_pre_normalised (hKernelIdeal := hKernelIdeal) (hPre_normalised := hPre_normalised)
    ∧ quiescent_ReferenceIdeal (hReferenceIdeal := hReferenceIdeal)
    ∧ quiescent_ReferenceIdeal_pre_normalised (hReferenceIdeal := hReferenceIdeal) (hPre_normalised := hPre_normalised)
    ∧ preserves_Kernel_KernelIdeal
    ∧ algebraic_KernelIdeal_ReferenceIdeal_pre_normalised (hKernelIdeal := hKernelIdeal) (hReferenceIdeal := hReferenceIdeal) (hPre_normalised := hPre_normalised)
-- ==== Pre_normalised.lean ====
abbrev S1024x2 : Shape := ⟨2, ![1024, 2]⟩
abbrev S1024x192 : Shape := ⟨2, ![1024, 192]⟩
abbrev S1x192x32x32 : Shape := ⟨4, ![1, 192, 32, 32]⟩
abbrev S_ : Shape := ⟨0, ![]⟩
abbrev S1024 : Shape := ⟨1, ![1024]⟩
abbrev S1x32x32 : Shape := ⟨3, ![1, 32, 32]⟩

class Facts : Prop where
  bcast_S_S1024x2 : S_.BroadcastsInDim S1024x2 (![] : Fin 0 → Fin S1024x2.rank)
  reducesTo_S1024x2_S_d0_1 : S1024x2.ReducesTo [0, 1] S_
  h_S_ : 0 < S_.numel
  reducesTo_S1024x192_S1024_d1 : S1024x192.ReducesTo [1] S1024
  bcast_S_S1024 : S_.BroadcastsInDim S1024 (![] : Fin 0 → Fin S1024.rank)
  reducesTo_S1024_S_d0 : S1024.ReducesTo [0] S_
  reducesTo_S1x192x32x32_S1x32x32_d1 : S1x192x32x32.ReducesTo [1] S1x32x32
  bcast_S_S1x32x32 : S_.BroadcastsInDim S1x32x32 (![] : Fin 0 → Fin S1x32x32.rank)
  reducesTo_S1x32x32_S_d0_1_2 : S1x32x32.ReducesTo [0, 1, 2] S_

variable [Facts]

def fn {F : FTy → Type} [FloatOps F] (main_arg0 : FVec F S1024x2 .f32) (main_arg1 : FVec F S1024x2 .f32) (main_arg2 : FVec F S1024x192 .f32) (main_arg3 : FVec F S1x192x32x32 .f32) : IVec S_ 1 :=
  let main_v0 : FVec F S1024x2 .f32 := Host.absf main_arg1
  let main_cst : FVec F S_ .f32 := constant S_ .f32 0x6FA18F08#32
  let main_v1 : FVec F S1024x2 .f32 := broadcastInDim S1024x2 ![] bcast_S_S1024x2 main_cst
  let main_v2 : IVec S1024x2 1 := cmpf .ole main_v0 main_v1
  let main_c : IVec S_ 1 := constantI S_ 1 1#1
  let main_v3 : IVec S_ 1 := (fun x v => Host.reduce IntOp.andi x v reducesTo_S1024x2_S_d0_1 h_S_) main_v2 main_c
  let main_v4 : FVec F S1024x192 .f32 := mulf main_arg2 main_arg2
  let main_cst_0 : FVec F S_ .f32 := constant S_ .f32 0x00000000#32
  let main_v5 : FVec F S1024 .f32 := (fun x v => Host.reduceAdd x v reducesTo_S1024x192_S1024_d1 h_S_) main_v4 main_cst_0
  let main_cst_1 : FVec F S_ .f32 := constant S_ .f32 0x3FA00000#32
  let main_v6 : FVec F S1024 .f32 := broadcastInDim S1024 ![] bcast_S_S1024 main_cst_1
  let main_v7 : IVec S1024 1 := cmpf .ole main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v3 main_v8
  let main_v10 : FVec F S1x192x32x32 .f32 := mulf main_arg3 main_arg3
  let main_cst_3 : FVec F S_ .f32 := constant S_ .f32 0x00000000#32
  let main_v11 : FVec F S1x32x32 .f32 := (fun x v => Host.reduceAdd x v reducesTo_S1x192x32x32_S1x32x32_d1 h_S_) main_v10 main_cst_3
  let main_cst_4 : FVec F S_ .f32 := constant S_ .f32 0x3FA00000#32
  let main_v12 : FVec F S1x32x32 .f32 := broadcastInDim S1x32x32 ![] bcast_S_S1x32x32 main_cst_4
  let main_v13 : IVec S1x32x32 1 := cmpf .ole main_v11 main_v12
  let main_c_5 : IVec S_ 1 := constantI S_ 1 1#1
  let main_v14 : IVec S_ 1 := (fun x v => Host.reduce IntOp.andi x v reducesTo_S1x32x32_S_d0_1_2 h_S_) main_v13 main_c_5
  let main_v15 : IVec S_ 1 := andi main_v9 main_v14
  main_v15
-- ==== Kernel.lean ====
abbrev S1024x2 : Shape := ⟨2, ![1024, 2]⟩
abbrev S1024x192 : Shape := ⟨2, ![1024, 192]⟩
abbrev S1x192x32x32 : Shape := ⟨4, ![1, 192, 32, 32]⟩
abbrev S192x32x32 : Shape := ⟨3, ![192, 32, 32]⟩
abbrev S192x1024 : Shape := ⟨2, ![192, 1024]⟩
abbrev S1x1 : Shape := ⟨2, ![1, 1]⟩
abbrev S_ : Shape := ⟨0, ![]⟩
abbrev S256x2 : Shape := ⟨2, ![256, 2]⟩
abbrev S256x192 : Shape := ⟨2, ![256, 192]⟩
abbrev S256x1 : Shape := ⟨2, ![256, 1]⟩
abbrev S256x1024 : Shape := ⟨2, ![256, 1024]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 15
  | .vmem => 8
  | .smem => 0
  | _ => 0

abbrev bufTy : (tb : Table) → Fin (tcTables nBuf tb) → BufTy
  | .hbm, ⟨0, _⟩ => ⟨S1024x2, .f32⟩
  | .hbm, ⟨1, _⟩ => ⟨S1024x2, .f32⟩
  | .hbm, ⟨2, _⟩ => ⟨S1024x192, .f32⟩
  | .hbm, ⟨3, _⟩ => ⟨S1x192x32x32, .f32⟩
  | .hbm, ⟨4, _⟩ => ⟨S192x32x32, .f32⟩
  | .hbm, ⟨5, _⟩ => ⟨S192x1024, .f32⟩
  | .hbm, ⟨6, _⟩ => ⟨S1024x192, .f32⟩
  | .hbm, ⟨7, _⟩ => ⟨S1x1, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S256x2, .f32⟩
  | .local _ .vmem, ⟨1, _⟩ => ⟨S256x2, .f32⟩
  | .local _ .vmem, ⟨2, _⟩ => ⟨S256x192, .f32⟩
  | .local _ .vmem, ⟨3, _⟩ => ⟨S256x192, .f32⟩
  | .local _ .vmem, ⟨4, _⟩ => ⟨S1024x192, .f32⟩
  | .local _ .vmem, ⟨5, _⟩ => ⟨S192x1024, .f32⟩
  | .local _ .vmem, ⟨6, _⟩ => ⟨S1x1, .f32⟩
  | .local _ .vmem, ⟨7, _⟩ => ⟨S1x1, .f32⟩
  | _, _ => ⟨S1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0_0 : Ref sig .tc := ⟨.hbm, 7, rfl⟩
abbrev main_call0_v0_1 : Ref sig .tc := ⟨.hbm, 8, rfl⟩
abbrev main_call0_v1 : Ref sig .tc := ⟨.hbm, 9, rfl⟩
abbrev main_call0_cst : Ref sig .tc := ⟨.hbm, 10, rfl⟩
abbrev main_v3_0 : Ref sig .tc := ⟨.hbm, 11, rfl⟩
abbrev main_call0_v3 : Ref sig .tc := ⟨.hbm, 12, rfl⟩
abbrev main_call0_cst_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1024x2 : Shape := ⟨2, ![1024, 2]⟩
abbrev S1024x192 : Shape := ⟨2, ![1024, 192]⟩
abbrev S1x192x32x32 : Shape := ⟨4, ![1, 192, 32, 32]⟩
abbrev S192x32x32 : Shape := ⟨3, ![192, 32, 32]⟩
abbrev S1024x1 : Shape := ⟨2, ![1024, 1]⟩
abbrev S1024 : Shape := ⟨1, ![1024]⟩
abbrev S_ : Shape := ⟨0, ![]⟩
abbrev S192x1024 : Shape := ⟨2, ![192, 1024]⟩
abbrev S1024x1x4 : Shape := ⟨3, ![1024, 1, 4]⟩
abbrev S1024x4 : Shape := ⟨2, ![1024, 4]⟩
abbrev S4096 : Shape := ⟨1, ![4096]⟩
abbrev S1024x1x2 : Shape := ⟨3, ![1024, 1, 2]⟩
abbrev S32 : Shape := ⟨1, ![32]⟩
abbrev S32x32 : Shape := ⟨2, ![32, 32]⟩
abbrev S32x32x1 : Shape := ⟨3, ![32, 32, 1]⟩
abbrev S32x32x2 : Shape := ⟨3, ![32, 32, 2]⟩
abbrev S1x1024x2 : Shape := ⟨3, ![1, 1024, 2]⟩
abbrev S1024x1024x2 : Shape := ⟨3, ![1024, 1024, 2]⟩
abbrev S1024x1024 : Shape := ⟨2, ![1024, 1024]⟩
abbrev S4096x1 : Shape := ⟨2, ![4096, 1]⟩
abbrev S4096x2 : Shape := ⟨2, ![4096, 2]⟩
abbrev S1x32x32x192 : Shape := ⟨4, ![1, 32, 32, 192]⟩

abbrev nBuf : Space → Nat
  | .hbm => 394
  | .vmem => 0
  | .smem => 0
  | _ => 0

abbrev hbmTy0_0 (i : Nat) : BufTy := match i % 128 with
  | 0 => ⟨S1024x2, .f32⟩
  | 1 => ⟨S1024x2, .f32⟩
  | 2 => ⟨S1024x192, .f32⟩
  | 3 => ⟨S1x192x32x32, .f32⟩
  | 4 => ⟨S192x32x32, .f32⟩
  | 5 => ⟨S1024x1, .f32⟩
  | 6 => ⟨S1024, .f32⟩
  | 7 => ⟨S_, .f32⟩
  | 8 => ⟨S1024, .f32⟩
  | 9 => ⟨S1024, .f32⟩
  | 10 => ⟨S_, .f32⟩
  | 11 => ⟨S1024, .f32⟩
  | 12 => ⟨S1024, .f32⟩
  | 13 => ⟨S1024x1, .f32⟩
  | 14 => ⟨S1024, .f32⟩
  | 15 => ⟨S_, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .f32⟩
  | 22 => ⟨S1024, .f32⟩
  | 23 => ⟨S_, .f32⟩
  | 24 => ⟨S1024, .f32⟩
  | 25 => ⟨S1024, .f32⟩
  | 26 => ⟨S_, .f32⟩
  | 27 => ⟨S1024, .f32⟩
  | 28 => ⟨S1024, .f32⟩
  | 29 => ⟨S1024, .f32⟩
  | 30 => ⟨S_, .f32⟩
  | 31 => ⟨S1024, .f32⟩
  | 32 => ⟨S1024, .f32⟩
  | 33 => ⟨S1024, .f32⟩
  | 34 => ⟨S_, .f32⟩
  | 35 => ⟨S1024, .f32⟩
  | 36 => ⟨S1024, .f32⟩
  | 37 => ⟨S_, .f32⟩
  | 38 => ⟨S1024, .f32⟩
  | 39 => ⟨S1024, .i1⟩
  | 40 => ⟨S_, .f32⟩
  | 41 => ⟨S1024, .f32⟩
  | 42 => ⟨S1024, .i1⟩
  | 43 => ⟨S1024, .i1⟩
  | 44 => ⟨S_, .f32⟩
  | 45 => ⟨S1024, .f32⟩
  | 46 => ⟨S1024, .i1⟩
  | 47 => ⟨S1024, .i1⟩
  | 48 => ⟨S_, .f32⟩
  | 49 => ⟨S1024, .f32⟩
  | 50 => ⟨S1024, .i1⟩
  | 51 => ⟨S1024, .i1⟩
  | 52 => ⟨S_, .i32⟩
  | 53 => ⟨S_, .i32⟩
  | 54 => ⟨S_, .f32⟩
  | 55 => ⟨S1024, .f32⟩
  | 56 => ⟨S1024, .f32⟩
  | 57 => ⟨S_, .f32⟩
  | 58 => ⟨S1024, .f32⟩
  | 59 => ⟨S1024, .f32⟩
  | 60 => ⟨S1024, .i32⟩
  | 61 => ⟨S_, .i32⟩
  | 62 => ⟨S_, .i32⟩
  | 63 => ⟨S_, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .i32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S_, .i32⟩
  | 78 => ⟨S1024, .i32⟩
  | 79 => ⟨S1024, .i1⟩
  | 80 => ⟨S_, .i32⟩
  | 81 => ⟨S1024, .i32⟩
  | 82 => ⟨S1024, .i32⟩
  | 83 => ⟨S1024, .i32⟩
  | 84 => ⟨S1024x1, .i32⟩
  | 85 => ⟨S1024x1, .i32⟩
  | 86 => ⟨S1024x2, .i32⟩
  | 87 => ⟨S192x1024, .f32⟩
  | 88 => ⟨S1024x192, .f32⟩
  | 89 => ⟨S1024, .f32⟩
  | 90 => ⟨S1024x1, .f32⟩
  | 91 => ⟨S1024x192, .f32⟩
  | 92 => ⟨S1024x192, .f32⟩
  | 93 => ⟨S1024, .f32⟩
  | 94 => ⟨S1024x1, .f32⟩
  | 95 => ⟨S1024x192, .f32⟩
  | 96 => ⟨S1024x192, .f32⟩
  | 97 => ⟨S_, .f32⟩
  | 98 => ⟨S1024, .f32⟩
  | 99 => ⟨S1024, .i1⟩
  | 100 => ⟨S_, .f32⟩
  | 101 => ⟨S1024, .f32⟩
  | 102 => ⟨S1024, .i1⟩
  | 103 => ⟨S1024, .i1⟩
  | 104 => ⟨S_, .f32⟩
  | 105 => ⟨S1024, .f32⟩
  | 106 => ⟨S1024, .i1⟩
  | 107 => ⟨S1024, .i1⟩
  | 108 => ⟨S_, .f32⟩
  | 109 => ⟨S1024, .f32⟩
  | 110 => ⟨S1024, .i1⟩
  | 111 => ⟨S1024, .i1⟩
  | 112 => ⟨S_, .i32⟩
  | 113 => ⟨S_, .i32⟩
  | 114 => ⟨S_, .f32⟩
  | 115 => ⟨S1024, .f32⟩
  | 116 => ⟨S1024, .f32⟩
  | 117 => ⟨S_, .f32⟩
  | 118 => ⟨S1024, .f32⟩
  | 119 => ⟨S1024, .f32⟩
  | 120 => ⟨S1024, .i32⟩
  | 121 => ⟨S_, .i32⟩
  | 122 => ⟨S_, .i32⟩
  | 123 => ⟨S_, .f32⟩
  | 124 => ⟨S1024, .f32⟩
  | 125 => ⟨S1024, .f32⟩
  | 126 => ⟨S_, .f32⟩
  | 127 => ⟨S1024, .f32⟩
  | _ => ⟨S1024x2, .f32⟩

abbrev hbmTy0_1 (i : Nat) : BufTy := match i % 128 with
  | 0 => ⟨S1024, .f32⟩
  | 1 => ⟨S1024, .i32⟩
  | 2 => ⟨S_, .i32⟩
  | 3 => ⟨S1024, .i32⟩
  | 4 => ⟨S1024, .i1⟩
  | 5 => ⟨S_, .i32⟩
  | 6 => ⟨S1024, .i32⟩
  | 7 => ⟨S1024, .i32⟩
  | 8 => ⟨S1024, .i32⟩
  | 9 => ⟨S_, .i32⟩
  | 10 => ⟨S1024, .i32⟩
  | 11 => ⟨S1024, .i1⟩
  | 12 => ⟨S_, .i32⟩
  | 13 => ⟨S1024, .i32⟩
  | 14 => ⟨S1024, .i32⟩
  | 15 => ⟨S1024, .i32⟩
  | 16 => ⟨S1024x1, .i32⟩
  | 17 => ⟨S1024x1, .i32⟩
  | 18 => ⟨S1024x2, .i32⟩
  | 19 => ⟨S192x1024, .f32⟩
  | 20 => ⟨S1024x192, .f32⟩
  | 21 => ⟨S1024, .f32⟩
  | 22 => ⟨S1024x1, .f32⟩
  | 23 => ⟨S1024x192, .f32⟩
  | 24 => ⟨S1024x192, .f32⟩
  | 25 => ⟨S1024, .f32⟩
  | 26 => ⟨S1024x1, .f32⟩
  | 27 => ⟨S1024x192, .f32⟩
  | 28 => ⟨S1024x192, .f32⟩
  | 29 => ⟨S1024x192, .f32⟩
  | 30 => ⟨S_, .f32⟩
  | 31 => ⟨S1024, .f32⟩
  | 32 => ⟨S1024, .i1⟩
  | 33 => ⟨S_, .f32⟩
  | 34 => ⟨S1024, .f32⟩
  | 35 => ⟨S1024, .i1⟩
  | 36 => ⟨S1024, .i1⟩
  | 37 => ⟨S_, .f32⟩
  | 38 => ⟨S1024, .f32⟩
  | 39 => ⟨S1024, .i1⟩
  | 40 => ⟨S1024, .i1⟩
  | 41 => ⟨S_, .f32⟩
  | 42 => ⟨S1024, .f32⟩
  | 43 => ⟨S1024, .i1⟩
  | 44 => ⟨S1024, .i1⟩
  | 45 => ⟨S_, .i32⟩
  | 46 => ⟨S_, .i32⟩
  | 47 => ⟨S_, .f32⟩
  | 48 => ⟨S1024, .f32⟩
  | 49 => ⟨S1024, .f32⟩
  | 50 => ⟨S_, .f32⟩
  | 51 => ⟨S1024, .f32⟩
  | 52 => ⟨S1024, .f32⟩
  | 53 => ⟨S1024, .i32⟩
  | 54 => ⟨S_, .i32⟩
  | 55 => ⟨S_, .i32⟩
  | 56 => ⟨S_, .f32⟩
  | 57 => ⟨S1024, .f32⟩
  | 58 => ⟨S1024, .f32⟩
  | 59 => ⟨S_, .f32⟩
  | 60 => ⟨S1024, .f32⟩
  | 61 => ⟨S1024, .f32⟩
  | 62 => ⟨S1024, .i32⟩
  | 63 => ⟨S_, .i32⟩
  | 64 => ⟨S1024, .i32⟩
  | 65 => ⟨S1024, .i1⟩
  | 66 => ⟨S_, .i32⟩
  | 67 => ⟨S1024, .i32⟩
  | 68 => ⟨S1024, .i32⟩
  | 69 => ⟨S1024, .i32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S1024x1, .i32⟩
  | 78 => ⟨S1024x1, .i32⟩
  | 79 => ⟨S1024x2, .i32⟩
  | 80 => ⟨S192x1024, .f32⟩
  | 81 => ⟨S1024x192, .f32⟩
  | 82 => ⟨S1024, .f32⟩
  | 83 => ⟨S1024x1, .f32⟩
  | 84 => ⟨S1024x192, .f32⟩
  | 85 => ⟨S1024x192, .f32⟩
  | 86 => ⟨S1024, .f32⟩
  | 87 => ⟨S1024x1, .f32⟩
  | 88 => ⟨S1024x192, .f32⟩
  | 89 => ⟨S1024x192, .f32⟩
  | 90 => ⟨S1024x192, .f32⟩
  | 91 => ⟨S_, .f32⟩
  | 92 => ⟨S1024, .f32⟩
  | 93 => ⟨S1024, .i1⟩
  | 94 => ⟨S_, .f32⟩
  | 95 => ⟨S1024, .f32⟩
  | 96 => ⟨S1024, .i1⟩
  | 97 => ⟨S1024, .i1⟩
  | 98 => ⟨S_, .f32⟩
  | 99 => ⟨S1024, .f32⟩
  | 100 => ⟨S1024, .i1⟩
  | 101 => ⟨S1024, .i1⟩
  | 102 => ⟨S_, .f32⟩
  | 103 => ⟨S1024, .f32⟩
  | 104 => ⟨S1024, .i1⟩
  | 105 => ⟨S1024, .i1⟩
  | 106 => ⟨S_, .i32⟩
  | 107 => ⟨S_, .i32⟩
  | 108 => ⟨S_, .f32⟩
  | 109 => ⟨S1024, .f32⟩
  | 110 => ⟨S1024, .f32⟩
  | 111 => ⟨S_, .f32⟩
  | 112 => ⟨S1024, .f32⟩
  | 113 => ⟨S1024, .f32⟩
  | 114 => ⟨S1024, .i32⟩
  | 115 => ⟨S_, .i32⟩
  | 116 => ⟨S_, .i32⟩
  | 117 => ⟨S_, .f32⟩
  | 118 => ⟨S1024, .f32⟩
  | 119 => ⟨S1024, .f32⟩
  | 120 => ⟨S_, .f32⟩
  | 121 => ⟨S1024, .f32⟩
  | 122 => ⟨S1024, .f32⟩
  | 123 => ⟨S1024, .i32⟩
  | 124 => ⟨S_, .i32⟩
  | 125 => ⟨S1024, .i32⟩
  | 126 => ⟨S1024, .i1⟩
  | 127 => ⟨S_, .i32⟩
  | _ => ⟨S1024x2, .f32⟩

abbrev hbmTy0_2 (i : Nat) : BufTy := match i % 128 with
  | 0 => ⟨S1024, .i32⟩
  | 1 => ⟨S1024, .i32⟩
  | 2 => ⟨S1024, .i32⟩
  | 3 => ⟨S_, .i32⟩
  | 4 => ⟨S1024, .i32⟩
  | 5 => ⟨S1024, .i1⟩
  | 6 => ⟨S_, .i32⟩
  | 7 => ⟨S1024, .i32⟩
  | 8 => ⟨S1024, .i32⟩
  | 9 => ⟨S1024, .i32⟩
  | 10 => ⟨S1024x1, .i32⟩
  | 11 => ⟨S1024x1, .i32⟩
  | 12 => ⟨S1024x2, .i32⟩
  | 13 => ⟨S192x1024, .f32⟩
  | 14 => ⟨S1024x192, .f32⟩
  | 15 => ⟨S1024, .f32⟩
  | 16 => ⟨S1024x1, .f32⟩
  | 17 => ⟨S1024x192, .f32⟩
  | 18 => ⟨S1024x192, .f32⟩
  | 19 => ⟨S1024, .f32⟩
  | 20 => ⟨S1024x1, .f32⟩
  | 21 => ⟨S1024x192, .f32⟩
  | 22 => ⟨S1024x192, .f32⟩
  | 23 => ⟨S1024x192, .f32⟩
  | 24 => ⟨S1024x192, .f32⟩
  | 25 => ⟨S_, .f32⟩
  | 26 => ⟨S1024, .f32⟩
  | 27 => ⟨S1024x1, .f32⟩
  | 28 => ⟨S1024x1, .f32⟩
  | 29 => ⟨S_, .f32⟩
  | 30 => ⟨S1024x1, .f32⟩
  | 31 => ⟨S1024x1, .f32⟩
  | 32 => ⟨S1024x192, .f32⟩
  | 33 => ⟨S1024x192, .f32⟩
  | 34 => ⟨S1024x192, .f32⟩
  | 35 => ⟨S_, .f32⟩
  | 36 => ⟨S1024, .f32⟩
  | 37 => ⟨S_, .f32⟩
  | 38 => ⟨S1024, .f32⟩
  | 39 => ⟨S1024, .f32⟩
  | 40 => ⟨S_, .f32⟩
  | 41 => ⟨S1024, .f32⟩
  | 42 => ⟨S1024, .f32⟩
  | 43 => ⟨S1024x1, .f32⟩
  | 44 => ⟨S1024x1x4, .f32⟩
  | 45 => ⟨S1024x4, .f32⟩
  | 46 => ⟨S4096, .f32⟩
  | 47 => ⟨S1024x2, .f32⟩
  | 48 => ⟨S1024x1x2, .f32⟩
  | 49 => ⟨S32, .f32⟩
  | 50 => ⟨S32, .f32⟩
  | 51 => ⟨S32x32, .f32⟩
  | 52 => ⟨S32x32, .f32⟩
  | 53 => ⟨S32x32x1, .f32⟩
  | 54 => ⟨S32x32x1, .f32⟩
  | 55 => ⟨S32x32x2, .f32⟩
  | 56 => ⟨S1024x2, .f32⟩
  | 57 => ⟨S1x1024x2, .f32⟩
  | 58 => ⟨S_, .f32⟩
  | 59 => ⟨S1x1024x2, .f32⟩
  | 60 => ⟨S1x1024x2, .f32⟩
  | 61 => ⟨S_, .f32⟩
  | 62 => ⟨S1x1024x2, .f32⟩
  | 63 => ⟨S1x1024x2, .f32⟩
  | 64 => ⟨S1024x1024x2, .f32⟩
  | 65 => ⟨S1024x1024x2, .f32⟩
  | 66 => ⟨S1024x1024x2, .f32⟩
  | 67 => ⟨S1024x1024x2, .f32⟩
  | 68 => ⟨S_, .f32⟩
  | 69 => ⟨S1024x1024, .f32⟩
  | 70 => ⟨S1024x1024, .f32⟩
  | 71 => ⟨S1024x1024, .f32⟩
  | 72 => ⟨S1024x4, .f32⟩
  | 73 => ⟨S1024x4, .i32⟩
  | 74 => ⟨S1024, .i32⟩
  | 75 => ⟨S1024x1, .i32⟩
  | 76 => ⟨S1024x1x4, .i32⟩
  | 77 => ⟨S1024x4, .i32⟩
  | 78 => ⟨S4096, .i32⟩
  | 79 => ⟨S_, .f32⟩
  | 80 => ⟨S1024x1024, .f32⟩
  | 81 => ⟨S4096, .i32⟩
  | 82 => ⟨S_, .i32⟩
  | 83 => ⟨S4096, .i32⟩
  | 84 => ⟨S4096, .i1⟩
  | 85 => ⟨S_, .i32⟩
  | 86 => ⟨S4096, .i32⟩
  | 87 => ⟨S4096, .i32⟩
  | 88 => ⟨S4096, .i32⟩
  | 89 => ⟨S_, .i32⟩
  | 90 => ⟨S4096, .i32⟩
  | 91 => ⟨S4096, .i1⟩
  | 92 => ⟨S_, .i32⟩
  | 93 => ⟨S4096, .i32⟩
  | 94 => ⟨S4096, .i32⟩
  | 95 => ⟨S4096, .i32⟩
  | 96 => ⟨S4096x1, .i32⟩
  | 97 => ⟨S4096x1, .i32⟩
  | 98 => ⟨S4096x2, .i32⟩
  | 99 => ⟨S_, .f32⟩
  | 100 => ⟨S4096, .f32⟩
  | 101 => ⟨S1024x1024, .f32⟩
  | 102 => ⟨S1x32x32x192, .f32⟩
  | 103 => ⟨S1024x192, .f32⟩
  | 104 => ⟨S_, .f32⟩
  | 105 => ⟨S1024x192, .f32⟩
  | 106 => ⟨S1024x192, .f32⟩
  | 107 => ⟨S192x1024, .f32⟩
  | 108 => ⟨S1024x1024, .f32⟩
  | 109 => ⟨S_, .f32⟩
  | 110 => ⟨S1024x1024, .f32⟩
  | 111 => ⟨S1024x1024, .f32⟩
  | 112 => ⟨S_, .f32⟩
  | 113 => ⟨S1024x1024, .f32⟩
  | 114 => ⟨S1024x1024, .f32⟩
  | 115 => ⟨S1024x1024, .f32⟩
  | 116 => ⟨S1024x1024, .f32⟩
  | 117 => ⟨S1024x4, .f32⟩
  | 118 => ⟨S1024x4, .i32⟩
  | 119 => ⟨S1024x4, .f32⟩
  | 120 => ⟨S4096, .f32⟩
  | 121 => ⟨S4096, .f32⟩
  | 122 => ⟨S_, .f32⟩
  | 123 => ⟨S4096, .f32⟩
  | 124 => ⟨S4096, .f32⟩
  | 125 => ⟨S_, .f32⟩
  | 126 => ⟨S4096, .f32⟩
  | 127 => ⟨S4096, .f32⟩
  | _ => ⟨S1024x2, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | _ => ⟨S1024x2, .f32⟩

abbrev hbmTy (i : Nat) : BufTy := match i / 128 with
  | 0 => hbmTy0_0 i
  | 1 => hbmTy0_1 i
  | 2 => hbmTy0_2 i
  | 3 => hbmTy0_3 i
  | _ => ⟨S1024x2, .f32⟩

abbrev bufTy : (tb : Table) → Fin (tcTables nBuf tb) → BufTy
  | .hbm, ⟨i, _⟩ => hbmTy i
  | _, _ => ⟨S1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c : Ref sig .tc := ⟨.hbm, 52, rfl⟩
abbrev main_c_11 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v36 : Ref sig .tc := ⟨.hbm, 59, rfl⟩
abbrev main_v37 : Ref sig .tc := ⟨.hbm, 60, rfl⟩
abbrev main_c_12 : Ref sig .tc := ⟨.hbm, 61, rfl⟩
abbrev main_c_13 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v38 : Ref sig .tc := ⟨.hbm, 68, rfl⟩
abbrev main_v39 : Ref sig .tc := ⟨.hbm, 69, rfl⟩
abbrev main_c_14 : Ref sig .tc := ⟨.hbm, 70, rfl⟩
abbrev main_v40 : Ref sig .tc := ⟨.hbm, 71, rfl⟩
abbrev main_v41 : Ref sig .tc := ⟨.hbm, 72, rfl⟩
abbrev main_c_15 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_16 : Ref sig .tc := ⟨.hbm, 77, rfl⟩
abbrev main_v45 : Ref sig .tc := ⟨.hbm, 78, rfl⟩
abbrev main_v46 : Ref sig .tc := ⟨.hbm, 79, rfl⟩
abbrev main_c_17 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_18 : Ref sig .tc := ⟨.hbm, 97, rfl⟩
abbrev main_v63 : Ref sig .tc := ⟨.hbm, 98, rfl⟩
abbrev main_v64 : Ref sig .tc := ⟨.hbm, 99, rfl⟩
abbrev main_cst_19 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_20 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_21 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_22 : Ref sig .tc := ⟨.hbm, 112, rfl⟩
abbrev main_c_23 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_v74 : Ref sig .tc := ⟨.hbm, 119, rfl⟩
abbrev main_v75 : Ref sig .tc := ⟨.hbm, 120, rfl⟩
abbrev main_c_24 : Ref sig .tc := ⟨.hbm, 121, rfl⟩
abbrev main_c_25 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_v76 : Ref sig .tc := ⟨.hbm, 128, rfl⟩
abbrev main_v77 : Ref sig .tc := ⟨.hbm, 129, rfl⟩
abbrev main_c_26 : Ref sig .tc := ⟨.hbm, 130, rfl⟩
abbrev main_v78 : Ref sig .tc := ⟨.hbm, 131, rfl⟩
abbrev main_v79 : Ref sig .tc := ⟨.hbm, 132, rfl⟩
abbrev main_c_27 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_c_28 : Ref sig .tc := ⟨.hbm, 137, rfl⟩
abbrev main_v83 : Ref sig .tc := ⟨.hbm, 138, rfl⟩
abbrev main_v84 : Ref sig .tc := ⟨.hbm, 139, rfl⟩
abbrev main_c_29 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_cst_30 : Ref sig .tc := ⟨.hbm, 158, rfl⟩
abbrev main_v102 : Ref sig .tc := ⟨.hbm, 159, rfl⟩
abbrev main_v103 : Ref sig .tc := ⟨.hbm, 160, rfl⟩
abbrev main_cst_31 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_cst_32 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_cst_33 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_c_34 : Ref sig .tc := ⟨.hbm, 173, rfl⟩
abbrev main_c_35 : Ref sig .tc := ⟨.hbm, 174, rfl⟩
abbrev main_call4_v0 : Ref sig .tc := ⟨.hbm, 175, rfl⟩
abbrev main_call4_v1 : Ref sig .tc := ⟨.hbm, 176, rfl⟩
abbrev main_call4_v2 : Ref sig .tc := ⟨.hbm, 177, rfl⟩
abbrev main_call4_v3 : Ref sig .tc := ⟨.hbm, 178, rfl⟩
abbrev main_call4_v4 : Ref sig .tc := ⟨.hbm, 179, rfl⟩
abbrev main_v113 : Ref sig .tc := ⟨.hbm, 180, rfl⟩
abbrev main_v114 : Ref sig .tc := ⟨.hbm, 181, rfl⟩
abbrev main_c_36 : Ref sig .tc := ⟨.hbm, 182, rfl⟩
abbrev main_c_37 : Ref sig .tc := ⟨.hbm, 183, rfl⟩
abbrev main_call5_v0 : Ref sig .tc := ⟨.hbm, 184, rfl⟩
abbrev main_call5_v1 : Ref sig .tc := ⟨.hbm, 185, rfl⟩
abbrev main_call5_v2 : Ref sig .tc := ⟨.hbm, 186, rfl⟩
abbrev main_call5_v3 : Ref sig .tc := ⟨.hbm, 187, rfl⟩
abbrev main_call5_v4 : Ref sig .tc := ⟨.hbm, 188, rfl⟩
abbrev main_v115 : Ref sig .tc := ⟨.hbm, 189, rfl⟩
abbrev main_v116 : Ref sig .tc := ⟨.hbm, 190, rfl⟩
abbrev main_c_38 : Ref sig .tc := ⟨.hbm, 191, rfl⟩
abbrev main_v117 : Ref sig .tc := ⟨.hbm, 192, rfl⟩
abbrev main_v118 : Ref sig .tc := ⟨.hbm, 193, rfl⟩
abbrev main_c_39 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_c_40 : Ref sig .tc := ⟨.hbm, 198, rfl⟩
abbrev main_v122 : Ref sig .tc := ⟨.hbm, 199, rfl⟩
abbrev main_v123 : Ref sig .tc := ⟨.hbm, 200, rfl⟩
abbrev main_c_41 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_cst_42 : Ref sig .tc := ⟨.hbm, 219, rfl⟩
abbrev main_v141 : Ref sig .tc := ⟨.hbm, 220, rfl⟩
abbrev main_v142 : Ref sig .tc := ⟨.hbm, 221, rfl⟩
abbrev main_cst_43 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_cst_44 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_cst_45 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_c_46 : Ref sig .tc := ⟨.hbm, 234, rfl⟩
abbrev main_c_47 : Ref sig .tc := ⟨.hbm, 235, rfl⟩
abbrev main_call6_v0 : Ref sig .tc := ⟨.hbm, 236, rfl⟩
abbrev main_call6_v1 : Ref sig .tc := ⟨.hbm, 237, rfl⟩
abbrev main_call6_v2 : Ref sig .tc := ⟨.hbm, 238, rfl⟩
abbrev main_call6_v3 : Ref sig .tc := ⟨.hbm, 239, rfl⟩
abbrev main_call6_v4 : Ref sig .tc := ⟨.hbm, 240, rfl⟩
abbrev main_v152 : Ref sig .tc := ⟨.hbm, 241, rfl⟩
abbrev main_v153 : Ref sig .tc := ⟨.hbm, 242, rfl⟩
abbrev main_c_48 : Ref sig .tc := ⟨.hbm, 243, rfl⟩
abbrev main_c_49 : Ref sig .tc := ⟨.hbm, 244, rfl⟩
abbrev main_call7_v0 : Ref sig .tc := ⟨.hbm, 245, rfl⟩
abbrev main_call7_v1 : Ref sig .tc := ⟨.hbm, 246, rfl⟩
abbrev main_call7_v2 : Ref sig .tc := ⟨.hbm, 247, rfl⟩
abbrev main_call7_v3 : Ref sig .tc := ⟨.hbm, 248, rfl⟩
abbrev main_call7_v4 : Ref sig .tc := ⟨.hbm, 249, rfl⟩
abbrev main_v154 : Ref sig .tc := ⟨.hbm, 250, rfl⟩
abbrev main_v155 : Ref sig .tc := ⟨.hbm, 251, rfl⟩
abbrev main_c_50 : Ref sig .tc := ⟨.hbm, 252, rfl⟩
abbrev main_v156 : Ref sig .tc := ⟨.hbm, 253, rfl⟩
abbrev main_v157 : Ref sig .tc := ⟨.hbm, 254, rfl⟩
abbrev main_c_51 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_c_52 : Ref sig .tc := ⟨.hbm, 259, rfl⟩
abbrev main_v161 : Ref sig .tc := ⟨.hbm, 260, rfl⟩
abbrev main_v162 : Ref sig .tc := ⟨.hbm, 261, rfl⟩
abbrev main_c_53 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_call8_v0 : Ref sig .tc := ⟨.hbm, 280, rfl⟩
abbrev main_call8_cst : Ref sig .tc := ⟨.hbm, 281, rfl⟩
abbrev main_call8_v1 : Ref sig .tc := ⟨.hbm, 282, rfl⟩
abbrev main_call8_v2 : Ref sig .tc := ⟨.hbm, 283, rfl⟩
abbrev main_v180 : Ref sig .tc := ⟨.hbm, 284, rfl⟩
abbrev main_cst_54 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_cst_55 : Ref sig .tc := ⟨.hbm, 291, rfl⟩
abbrev main_v186 : Ref sig .tc := ⟨.hbm, 292, rfl⟩
abbrev main_cst_56 : Ref sig .tc := ⟨.hbm, 293, rfl⟩
abbrev main_v187 : Ref sig .tc := ⟨.hbm, 294, rfl⟩
abbrev main_v188 : Ref sig .tc := ⟨.hbm, 295, rfl⟩
abbrev main_cst_57 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_v192 : Ref sig .tc := ⟨.hbm, 300, rfl⟩
abbrev main_v193 : Ref sig .tc := ⟨.hbm, 301, rfl⟩
abbrev main_v194 : Ref sig .tc := ⟨.hbm, 302, rfl⟩
abbrev main_v195 : Ref sig .tc := ⟨.hbm, 303, rfl⟩
abbrev main_v196 : Ref sig .tc := ⟨.hbm, 304, rfl⟩
abbrev main_v197 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_v205 : Ref sig .tc := ⟨.hbm, 313, rfl⟩
abbrev main_cst_58 : Ref sig .tc := ⟨.hbm, 314, rfl⟩
abbrev main_v206 : Ref sig .tc := ⟨.hbm, 315, rfl⟩
abbrev main_v207 : Ref sig .tc := ⟨.hbm, 316, rfl⟩
abbrev main_cst_59 : Ref sig .tc := ⟨.hbm, 317, rfl⟩
abbrev main_v208 : Ref sig .tc := ⟨.hbm, 318, rfl⟩
abbrev main_v209 : Ref sig .tc := ⟨.hbm, 319, rfl⟩
abbrev main_v210 : Ref sig .tc := ⟨.hbm, 320, rfl⟩
abbrev main_v211 : Ref sig .tc := ⟨.hbm, 321, rfl⟩
abbrev main_v212 : Ref sig .tc := ⟨.hbm, 322, rfl⟩
abbrev main_call9_v0 : Ref sig .tc := ⟨.hbm, 323, rfl⟩
abbrev main_call9_cst : Ref sig .tc := ⟨.hbm, 324, rfl⟩
abbrev main_call9_v1 : Ref sig .tc := ⟨.hbm, 325, rfl⟩
abbrev main_v213 : Ref sig .tc := ⟨.hbm, 326, rfl⟩
abbrev main_v214 : Ref sig .tc := ⟨.hbm, 327, rfl⟩
abbrev main_values : Ref sig .tc := ⟨.hbm, 328, rfl⟩
abbrev main_indices : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_v219 : Ref sig .tc := ⟨.hbm, 334, rfl⟩
abbrev main_cst_60 : Ref sig .tc := ⟨.hbm, 335, rfl⟩
abbrev main_v220 : Ref sig .tc := ⟨.hbm, 336, rfl⟩
abbrev main_v221 : Ref sig .tc := ⟨.hbm, 337, rfl⟩
abbrev main_c_61 : Ref sig .tc := ⟨.hbm, 338, rfl⟩
abbrev main_v222 : Ref sig .tc := ⟨.hbm, 339, rfl⟩
abbrev main_v223 : Ref sig .tc := ⟨.hbm, 340, rfl⟩
abbrev main_c_62 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_c_63 : Ref sig .tc := ⟨.hbm, 345, rfl⟩
abbrev main_v227 : Ref sig .tc := ⟨.hbm, 346, rfl⟩
abbrev main_v228 : Ref sig .tc := ⟨.hbm, 347, rfl⟩
abbrev main_c_64 : Ref sig .tc := ⟨.hbm, 348, rfl⟩
abbrev main_v229 : Ref sig .tc := ⟨.hbm, 349, rfl⟩
abbrev main_v230 : Ref sig .tc := ⟨.hbm, 350, rfl⟩
abbrev main_v231 : Ref sig .tc := ⟨.hbm, 351, rfl⟩
abbrev main_v232 : Ref sig .tc := ⟨.hbm, 352, rfl⟩
abbrev main_v233 : Ref sig .tc := ⟨.hbm, 353, rfl⟩
abbrev main_v234 : Ref sig .tc := ⟨.hbm, 354, rfl⟩
abbrev main_cst_65 : Ref sig .tc := ⟨.hbm, 355, rfl⟩
abbrev main_v235 : Ref sig .tc := ⟨.hbm, 356, rfl⟩
abbrev main_v236 : Ref sig .tc := ⟨.hbm, 357, rfl⟩
abbrev main_v237 : Ref sig .tc := ⟨.hbm, 358, rfl⟩
abbrev main_v238 : Ref sig .tc := ⟨.hbm, 359, rfl⟩
abbrev main_cst_66 : Ref sig .tc := ⟨.hbm, 360, rfl⟩
abbrev main_v239 : Ref sig .tc := ⟨.hbm, 361, rfl⟩
abbrev main_v240 : Ref sig .tc := ⟨.hbm, 362, rfl⟩
abbrev main_v241 : Ref sig .tc := ⟨.hbm, 363, rfl⟩
abbrev main_v242 : Ref sig .tc := ⟨.hbm, 364, rfl⟩
abbrev main_cst_67 : Ref sig .tc := ⟨.hbm, 365, rfl⟩
abbrev main_v243 : Ref sig .tc := ⟨.hbm, 366, rfl⟩
abbrev main_v244 : Ref sig .tc := ⟨.hbm, 367, rfl⟩
abbrev main_cst_68 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_v248 : Ref sig .tc := ⟨.hbm, 372, rfl⟩
abbrev main_values_69 : Ref sig .tc := ⟨.hbm, 373, rfl⟩
abbrev main_indices_70 : Ref sig .tc := ⟨.hbm, 374, rfl⟩
abbrev main_v249 : Ref sig .tc := ⟨.hbm, 375, rfl⟩
abbrev main_v250 : Ref sig .tc := ⟨.hbm, 376, rfl⟩
abbrev main_v251 : Ref sig .tc := ⟨.hbm, 377, rfl⟩
abbrev main_cst_71 : Ref sig .tc := ⟨.hbm, 378, rfl⟩
abbrev main_v252 : Ref sig .tc := ⟨.hbm, 379, rfl⟩
abbrev main_v253 : Ref sig .tc := ⟨.hbm, 380, rfl⟩
abbrev main_cst_72 : Ref sig .tc := ⟨.hbm, 381, rfl⟩
abbrev main_v254 : Ref sig .tc := ⟨.hbm, 382, rfl⟩
abbrev main_v255 : Ref sig .tc := ⟨.hbm, 383, rfl⟩
abbrev main_cst_73 : Ref sig .tc := ⟨.hbm, 384, rfl⟩
abbrev main_v256 : Ref sig .tc := ⟨.hbm, 385, rfl⟩
abbrev main_cst_74 : Ref sig .tc := ⟨.hbm, 386, rfl⟩
abbrev main_v257 : Ref sig .tc := ⟨.hbm, 387, rfl⟩
abbrev main_cst_75 : Ref sig .tc := ⟨.hbm, 388, rfl⟩
abbrev main_v258 : Ref sig .tc := ⟨.hbm, 389, rfl⟩
abbrev main_cst_76 : Ref sig .tc := ⟨.hbm, 390, rfl⟩
abbrev main_v259 : Ref sig .tc := ⟨.hbm, 391, rfl⟩
abbrev main_cst_77 : Ref sig .tc := ⟨.hbm, 392, rfl⟩
abbrev main_v260 : Ref sig .tc := ⟨.hbm, 393, rfl⟩

abbrev nD : Nat := 1
abbrev τ : Topo := Topo.v7x

variable {F : FTy → Type} [FloatOps F]
-- ==== Proof.Consts.lean ====
/-
  The literals of both programs as real numbers, and the scalar operations at real numbers.
-/
module

public import Idealize.ShloMosaic.Lib.Pointwise

@[expose] public section

noncomputable section

open Idealize.ShloMosaic

namespace Cert.Consts

/-! ## Literals -/

/-- The filler for hidden cells, about `1e30`. -/
def big : ℝ := 13234890 * 2 ^ 76

/-- The bound of the division, about `1e-12`. -/
def eps : ℝ := 9223372 / 2 ^ 63

/-- The bound of the coordinates, about `1e29`. -/
def far : ℝ := 10587912 * 2 ^ 73

theorem lit_16th : Ideal.ofBits .f32 0x3D800000#32 = ((1 / 16 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]
theorem lit_2 : Ideal.ofBits .f32 0x40000000#32 = ((2 : ℝ) : EReal) := by
  simp [Ideal.ofBits, Ideal.ieee, -EReal.coe_mul]; norm_num
theorem lit_5 : Ideal.ofBits .f32 0x40A00000#32 = ((5 : ℝ) : EReal) := by
  simp [Ideal.ofBits, Ideal.ieee, -EReal.coe_mul]; norm_num
theorem lit_8 : Ideal.ofBits .f32 0x41000000#32 = ((8 : ℝ) : EReal) := by
  simp [Ideal.ofBits, Ideal.ieee, -EReal.coe_mul]; norm_num
theorem lit_16 : Ideal.ofBits .f32 0x41800000#32 = ((16 : ℝ) : EReal) := by
  simp [Ideal.ofBits, Ideal.ieee, -EReal.coe_mul]; norm_num
theorem lit_31 : Ideal.ofBits .f32 0x41F80000#32 = ((31 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_4096 : Ideal.ofBits .f32 0x45800000#32 = ((4096 : ℝ) : EReal) := by
  simp [Ideal.ofBits, Ideal.ieee, -EReal.coe_mul]; norm_num
theorem lit_five_quarters : Ideal.ofBits .f32 0x3FA00000#32 = ((5 / 4 : ℝ) : EReal) := by
  simp [Ideal.ofBits, Ideal.ieee, -EReal.coe_mul]; norm_num
theorem lit_eps : Ideal.ofBits .f32 0x2B8CBCCC#32 = ((eps : ℝ) : EReal) := by
  unfold eps; simp [Ideal.ofBits, Ideal.ieee, -EReal.coe_mul]; norm_num
theorem lit_big : Ideal.ofBits .f32 0x7149F2CA#32 = ((big : ℝ) : EReal) := by
  unfold big; simp [Ideal.ofBits, Ideal.ieee, -EReal.coe_mul]
theorem lit_far : Ideal.ofBits .f32 0x6FA18F08#32 = ((far : ℝ) : EReal) := by
  unfold far; simp [Ideal.ofBits, Ideal.ieee, -EReal.coe_mul]
theorem lit_top : Ideal.ofBits .f32 0x7F800000#32 = (⊤ : EReal) := by
  simp [Ideal.ofBits, Ideal.ieee]

theorem eps_pos : 0 < eps := by unfold eps; norm_num
theorem big_pos : 0 < big := by unfold big; norm_num

/-! ## Operations at real numbers -/

theorem max_coe (a b : ℝ) : max (a : EReal) (b : EReal) = ((max a b : ℝ) : EReal) := (EReal.coe_strictMono.monotone.map_max).symm
theorem min_coe (a b : ℝ) : min (a : EReal) (b : EReal) = ((min a b : ℝ) : EReal) := (EReal.coe_strictMono.monotone.map_min).symm

theorem sum_coe {ι : Type} (s : Finset ι) (f : ι → ℝ) : (∑ x ∈ s, ((f x : ℝ) : EReal)) = ((∑ x ∈ s, f x : ℝ) : EReal) := by
  classical
  induction s using Finset.induction_on with
  | empty => simp
  | insert a s ha ih => rw [Finset.sum_insert ha, Finset.sum_insert ha, ih, EReal.coe_add]

theorem sqrt_real {r : ℝ} (h : 0 ≤ r) : Ideal.sqrt (r : EReal) = ((Real.sqrt r : ℝ) : EReal) := by
  rw [Ideal.sqrt_coe, if_neg (not_lt.mpr h)]

theorem div_real {y : ℝ} (h : y ≠ 0) (x : ℝ) : Ideal.div (x : EReal) (y : EReal) = ((x / y : ℝ) : EReal) := by
  rw [Ideal.div_coe h, ← EReal.coe_mul, mul_one_div]

/-- Choosing by a comparison's word. -/
theorem select_ofBool {α : Type} (p : Prop) [Decidable p] (x y : α) :
    Scalar.select (BitVec.ofBool (decide p)) x y = if p then x else y := by
  by_cases h : p <;> simp [Scalar.select, h]

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

/-- The place of a coordinate on the grid: its integer part, kept between 0 and 31. -/
def coord (p : ℝ) : Fin 32 := ⟨(⌊min 31 (max 0 p)⌋).toNat, by
  have h : (⌊min 31 (max 0 p)⌋ : ℤ) ≤ 31 := by
    have := Int.floor_le_floor (min_le_left (31 : ℝ) (max 0 p)); simpa using this
  omega⟩

theorem fptosi_coord (p : ℝ) : Ideal.fptosi 32 ((min 31 (max 0 p) : ℝ) : EReal) = BitVec.ofNat 32 (coord p).val := by
  have h0 : (0 : ℝ) ≤ min 31 (max 0 p) := le_min (by norm_num) (le_max_left _ _)
  have h0' : (0 : ℤ) ≤ ⌊min 31 (max 0 p)⌋ := Int.floor_nonneg.mpr h0
  have h : (⌊min 31 (max 0 p)⌋ : ℤ) ≤ 31 := by
    have := Int.floor_le_floor (min_le_left (31 : ℝ) (max 0 p)); simpa using this
  obtain ⟨z, hz⟩ := Int.eq_ofNat_of_zero_le h0'
  have hc : (coord p).val = z := by show (⌊min 31 (max 0 p)⌋).toNat = z; rw [hz]; rfl
  have hz' : (z : ℤ) ≤ 31 := hz ▸ h
  rw [hc]
  unfold Ideal.fptosi
  rw [Ideal.toIntClamped_coe, if_pos h0, hz, min_eq_right (by norm_num; omega), max_eq_right (by norm_num)]
  exact BitVec.ofInt_natCast 32 z

theorem cell_word (p q : Fin 32) :
    IntOp.addi (IntOp.muli (BitVec.ofNat 32 p.val) 32#32) (BitVec.ofNat 32 q.val) = BitVec.ofNat 32 (32 * p.val + q.val) := by
  apply BitVec.eq_of_toNat_eq
  simp [IntOp.addi, IntOp.muli]
  omega

theorem eq_word {a b : ℕ} (ha : a < 2 ^ 32) (hb : b < 2 ^ 32) :
    IntOp.cmpi .eq (BitVec.ofNat 32 a) (BitVec.ofNat 32 b) = BitVec.ofBool (decide (a = b)) := by
  have : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · rintro rfl; rfl
  show BitVec.ofBool (BitVec.ofNat 32 a == BitVec.ofNat 32 b) = _
  congr 1
  rw [beq_eq_decide]
  exact decide_eq_decide.mpr this

/-- A small word as a real number. -/
theorem sitofp_small {n : ℕ} (h : n < 2 ^ 31) :
    (FloatOps.sitofp .f32 (BitVec.ofNat 32 n) : Ideal .f32) = (((n : ℕ) : ℝ) : EReal) := by
  show (((BitVec.ofNat 32 n).toInt : ℝ) : EReal) = _
  congr 1
  rw [BitVec.toInt_eq_toNat_of_lt (by rw [BitVec.toNat_ofNat, Nat.mod_eq_of_lt (by omega)]; omega), BitVec.toNat_ofNat,
    Nat.mod_eq_of_lt (by omega)]
  simp

end Cert.Consts

end
-- ==== Proof.Select.lean ====
/- The least elements of a finite family, in order: what a sort followed by a cut lists, and what rounds of "take the
   first least element, then hide it behind a large filler" list. Both are the same list. -/
module

public import Idealize.ShloMosaic.Lib.SortPrefix
public import Mathlib.Data.Prod.Lex
public import Mathlib.Data.Fintype.Card
public import Mathlib.Data.Finset.Max

@[expose] public section

noncomputable section

namespace Cert.Select

open Idealize.ShloMosaic

variable {α β : Type} [LinearOrder α] [LinearOrder β] {n k : ℕ}

/-- The positions ordered by the value first and by the position among equal values. -/
def key (f : Fin n → α) (p : Fin n) : α ×ₗ Fin n := toLex (f p, p)

theorem key_lt_iff (f : Fin n → α) (p q : Fin n) : key f p < key f q ↔ f p < f q ∨ (f p = f q ∧ p < q) := by
  unfold key; exact Prod.Lex.toLex_lt_toLex

theorem key_injective (f : Fin n → α) : Function.Injective (key f) := fun p q h => by
  unfold key at h
  exact (Prod.ext_iff.mp (toLex.injective h)).2

theorem le_of_key_le {f : Fin n → α} {p q : Fin n} (h : key f p ≤ key f q) : f p ≤ f q := by
  rcases h.lt_or_eq with h | h
  · rcases (key_lt_iff f p q).mp h with h | h
    · exact h.le
    · exact h.1.le
  · rw [key_injective f h]

theorem key_le_of_lt {f : Fin n → α} {p q : Fin n} (h : f p < f q) : key f p ≤ key f q :=
  ((key_lt_iff f p q).mpr (Or.inl h)).le

/-- `σ` lists `k` different positions, in order, with none of the other positions before any of them. -/
structure Lists (g : Fin n → β) (σ : Fin k → Fin n) : Prop where
  inj : Function.Injective σ
  ord : ∀ i j, i < j → g (σ i) ≤ g (σ j)
  dom : ∀ i p, (∀ j, σ j ≠ p) → g (σ i) ≤ g p

theorem Lists.congr {γ : Type} [LinearOrder γ] {g : Fin n → β} {g' : Fin n → γ} {σ : Fin k → Fin n} (h : Lists g σ)
    (hg : ∀ p q, g p ≤ g q → g' p ≤ g' q) : Lists g' σ where
  inj := h.inj
  ord i j hij := hg _ _ (h.ord i j hij)
  dom i p hp := hg _ _ (h.dom i p hp)

theorem Lists.le {g : Fin n → β} {σ τ : Fin k → Fin n} (hσ : Lists g σ) (hτ : Lists g τ) (i : Fin k) :
    g (τ i) ≤ g (σ i) := by
  by_contra hlt
  rw [not_le] at hlt
  have hex : ∀ j : Fin k, j ≤ i → ∃ l : Fin k, l < i ∧ τ l = σ j := fun j hj => by
    have hj' : g (σ j) < g (τ i) := by
      rcases hj.lt_or_eq with h | h
      · exact (hσ.ord j i h).trans_lt hlt
      · rw [h]; exact hlt
    by_cases hr : ∃ l, τ l = σ j
    · obtain ⟨l, hl⟩ := hr
      refine ⟨l, ?_, hl⟩
      by_contra hli
      rw [not_lt] at hli
      have : g (τ i) ≤ g (τ l) := by
        rcases hli.lt_or_eq with h | h
        · exact hτ.ord i l h
        · rw [h]
      rw [hl] at this
      exact absurd hj' (not_lt.mpr this)
    · exact absurd hj' (not_lt.mpr (hτ.dom i (σ j) fun l hl => hr ⟨l, hl⟩))
  choose! l hl using hex
  have hcard : (Finset.Iic i).card ≤ (Finset.Iio i).card := by
    refine Finset.card_le_card_of_injOn l (fun j hj => ?_) (fun j hj j' hj' he => ?_)
    · exact Finset.mem_coe.mpr (Finset.mem_Iio.mpr (hl j (Finset.mem_Iic.mp hj)).1)
    · have h1 := (hl j (Finset.mem_Iic.mp hj)).2
      have h2 := (hl j' (Finset.mem_Iic.mp hj')).2
      rw [he, h2] at h1
      exact hσ.inj h1.symm
  rw [Fin.card_Iic, Fin.card_Iio] at hcard
  omega

/-- Two lists of the first `k` positions show the same values. -/
theorem Lists.value_eq {g : Fin n → β} {σ τ : Fin k → Fin n} (hσ : Lists g σ) (hτ : Lists g τ) (i : Fin k) :
    g (σ i) = g (τ i) := le_antisymm (hτ.le hσ i) (hσ.le hτ i)

/-- Where the order is by value and then position, they are the same list. -/
theorem Lists.eq {f : Fin n → α} {σ τ : Fin k → Fin n} (hσ : Lists (key f) σ) (hτ : Lists (key f) τ) : σ = τ :=
  funext fun i => key_injective f (hσ.value_eq hτ i)

/-! ## A stable sort, cut -/

theorem insertBefore_congr {ι : Type} (B L : ι → ι → Bool) (a : ι) (l : List ι) (h : ∀ b ∈ l, B b a = L b a) :
    insertBefore B a l = insertBefore L a l := by
  induction l with
  | nil => rfl
  | cons b l ih =>
    unfold insertBefore
    rw [h b (List.mem_cons_self ..), ih fun c hc => h c (List.mem_cons_of_mem _ hc)]

theorem stableSort_congr {ι : Type} (B L : ι → ι → Bool) (l : List ι) (h : l.Pairwise fun a b => B b a = L b a) :
    stableSort B l = stableSort L l := by
  induction l with
  | nil => rfl
  | cons a l ih =>
    rw [List.pairwise_cons] at h
    unfold stableSort
    rw [ih h.2]
    exact insertBefore_congr B L a _ fun b hb => h.1 b ((perm_stableSort L l).mem_iff.mp hb)

/-- A stable sort by the value alone sorts by the value and then the position. -/
theorem sortPositions_eq (g : Fin n → α) (B : Fin n → Fin n → Bool) (hB : ∀ p q, B p q = decide (g p < g q)) :
    sortPositions n B = sortPositions n fun p q => decide (key g p < key g q) := by
  refine stableSort_congr _ _ _ ((List.pairwise_lt_finRange n).imp fun {a b} hab => ?_)
  rw [hB, decide_eq_decide, key_lt_iff]
  exact ⟨Or.inl, fun h => h.elim id fun h => absurd h.2 (not_lt.mpr hab.le)⟩

/-- The first `k` places of the stable sort by `g`. -/
theorem lists_sortedFrom (g : Fin n → α) (B : Fin n → Fin n → Bool) (hB : ∀ p q, B p q = decide (g p < g q)) (hk : k ≤ n) :
    Lists (key g) fun i : Fin k => sortedFrom B (i.castLE hk) := by
  have hs : sortedFrom B = sortedFrom fun p q => decide (key g p < key g q) := by
    have hp := sortPositions_eq g B hB
    funext i
    unfold sortedFrom
    simp only [List.get_eq_getElem, Fin.val_cast]
    exact List.getElem_of_eq hp _
  have hno : ∀ i j : Fin n, i < j → key g (sortedFrom B i) ≤ key g (sortedFrom B j) := fun i j hij => by
    have := sortedFrom_noInversion (fun p q => decide (key g p < key g q)) (fun p q => decide (key g p < key g q))
      (fun a b h => by simp only [decide_eq_true_eq, decide_eq_false_iff_not, not_lt] at h ⊢; exact h.le) (fun _ _ h => h)
      (fun a b c h1 h2 => by
        simp only [decide_eq_false_iff_not, not_lt] at h1 h2 ⊢; exact h2.trans h1) i j hij
    rw [hs]
    simpa only [decide_eq_false_iff_not, not_lt] using this
  refine ⟨fun i j h => ?_, fun i j hij => hno _ _ hij, fun i p hp => ?_⟩
  · exact Fin.castLE_injective hk (sortedFrom_injective B h)
  · obtain ⟨q, rfl⟩ := sortedFrom_surjective B p
    refine hno _ _ ?_
    by_contra hq
    have hq' : q.val < k := lt_of_le_of_lt (not_lt.mp hq) i.isLt
    exact hp ⟨q.val, hq'⟩ rfl

/-! ## Rounds -/

/-- The first position of the least value. -/
def pick [NeZero n] (f : Fin n → α) : Fin n :=
  (Finset.exists_min_image Finset.univ (key f) ⟨0, Finset.mem_univ _⟩).choose

theorem key_pick_le [NeZero n] (f : Fin n → α) (p : Fin n) : key f (pick f) ≤ key f p :=
  (Finset.exists_min_image Finset.univ (key f) ⟨0, Finset.mem_univ _⟩).choose_spec.2 p (Finset.mem_univ p)

theorem pick_le [NeZero n] (f : Fin n → α) (p : Fin n) : f (pick f) ≤ f p := le_of_key_le (key_pick_le f p)

/-- Among the positions of the least value the picked one is the first. -/
theorem pick_le_of_eq [NeZero n] (f : Fin n → α) (p : Fin n) (h : f p = f (pick f)) : pick f ≤ p := by
  rcases (key_pick_le f p).lt_or_eq with hl | he
  · rcases (key_lt_iff _ _ _).mp hl with hl | hl
    · exact absurd h (ne_of_gt hl)
    · exact hl.2.le
  · exact (key_injective f he).le

/-- The family with the positions in `D` hidden behind the filler. -/
def masked (big : α) (f : Fin n → α) (D : Finset (Fin n)) (p : Fin n) : α := if p ∈ D then big else f p

theorem masked_insert (big : α) (f : Fin n → α) (D : Finset (Fin n)) (q p : Fin n) :
    masked big f (insert q D) p = if p = q then big else masked big f D p := by
  unfold masked
  by_cases h : p = q <;> simp [h]

variable [NeZero n]

/-- What is hidden after `r` rounds that start with `D` hidden. -/
def hidden (big : α) (f : Fin n → α) (D : Finset (Fin n)) : ℕ → Finset (Fin n)
  | 0 => D
  | r + 1 => insert (pick (masked big f (hidden big f D r))) (hidden big f D r)

/-- The position that round `r` picks. -/
def round (big : α) (f : Fin n → α) (D : Finset (Fin n)) (r : ℕ) : Fin n := pick (masked big f (hidden big f D r))

theorem card_hidden_le (big : α) (f : Fin n → α) (D : Finset (Fin n)) (r : ℕ) :
    (hidden big f D r).card ≤ D.card + r := by
  induction r with
  | zero => exact le_rfl
  | succ r ih => exact (Finset.card_insert_le _ _).trans (by omega)

theorem mem_hidden (big : α) (f : Fin n → α) (D : Finset (Fin n)) (r : ℕ) (p : Fin n) :
    p ∈ hidden big f D r ↔ p ∈ D ∨ ∃ s < r, round big f D s = p := by
  induction r with
  | zero => simp [hidden]
  | succ r ih =>
    rw [hidden, Finset.mem_insert, ih]
    constructor
    · rintro (rfl | h | ⟨s, hs, rfl⟩)
      · exact Or.inr ⟨r, Nat.lt_succ_self r, rfl⟩
      · exact Or.inl h
      · exact Or.inr ⟨s, by omega, rfl⟩
    · rintro (h | ⟨s, hs, rfl⟩)
      · exact Or.inr (Or.inl h)
      · rcases Nat.lt_succ_iff_lt_or_eq.mp hs with hs | rfl
        · exact Or.inr (Or.inr ⟨s, hs, rfl⟩)
        · exact Or.inl rfl

section rounds
variable {big : α} {f : Fin n → α} {D : Finset (Fin n)} (hbig : ∀ p, p ∉ D → f p < big)
include hbig

theorem round_not_mem {r : ℕ} (hr : D.card + r < n) : round big f D r ∉ hidden big f D r := by
  intro hm
  obtain ⟨p, hp⟩ : ∃ p, p ∉ hidden big f D r := by
    by_contra hall
    push Not at hall
    have h1 : (hidden big f D r) = Finset.univ := Finset.eq_univ_iff_forall.mpr hall
    have h2 := card_hidden_le big f D r
    rw [h1, Finset.card_univ, Fintype.card_fin] at h2
    omega
  have h1 := pick_le (masked big f (hidden big f D r)) p
  rw [show masked big f (hidden big f D r) (pick (masked big f (hidden big f D r))) = big from if_pos hm,
    show masked big f (hidden big f D r) p = f p from if_neg hp] at h1
  exact absurd (hbig p fun h => hp ((mem_hidden ..).mpr (Or.inl h))) (not_lt.mpr h1)

theorem round_value {r : ℕ} (hr : D.card + r < n) :
    masked big f (hidden big f D r) (round big f D r) = f (round big f D r) := if_neg (round_not_mem hbig hr)

theorem round_key_le {r : ℕ} (hr : D.card + r < n) (p : Fin n) (hp : p ∉ hidden big f D r) :
    key f (round big f D r) ≤ key f p := by
  have h1 := key_pick_le (masked big f (hidden big f D r)) p
  have h2 := round_value hbig hr
  unfold round at h2 ⊢
  unfold key at h1 ⊢
  rwa [h2, show masked big f (hidden big f D r) p = f p from if_neg hp] at h1

theorem round_injective (hk : D.card + k ≤ n) : Function.Injective fun i : Fin k => round big f D i := by
  have key : ∀ i j : Fin k, i < j → round big f D i ≠ round big f D j := fun i j hij he =>
    round_not_mem hbig (r := j) (by have := j.isLt; omega) ((mem_hidden ..).mpr (Or.inr ⟨i, hij, he⟩))
  intro i j he
  rcases lt_trichotomy i j with h | h | h
  · exact absurd he (key i j h)
  · exact h
  · exact absurd he.symm (key j i h)

/-- `k` rounds with nothing hidden at the start list the first `k` positions. -/
theorem lists_round (hD : D = ∅) (hk : k ≤ n) : Lists (key f) fun i : Fin k => round big f D i := by
  subst hD
  refine ⟨round_injective hbig (by simpa using hk), fun i j hij => ?_, fun i p hp => ?_⟩
  · refine round_key_le hbig (by have := i.isLt; simp; omega) _ fun hm => ?_
    exact round_not_mem hbig (r := j) (by have := j.isLt; simp; omega) ((mem_hidden ..).mpr
      (((mem_hidden ..).mp hm).imp id fun ⟨s, hs, he⟩ => ⟨s, hs.trans hij, he⟩))
  · refine round_key_le hbig (by have := i.isLt; simp; omega) _ fun hm => ?_
    rcases (mem_hidden ..).mp hm with h | ⟨s, hs, he⟩
    · exact absurd h (Finset.notMem_empty p)
    · exact hp ⟨s, hs.trans i.isLt⟩ he

/-- `k` rounds with `D` hidden list the first `k` values of any family that agrees with `f` off `D` and is on `D` at least
    everything off `D`. -/
theorem lists_round_of_raised (g : Fin n → α) (hoff : ∀ p, p ∉ D → g p = f p) (hon : ∀ p q, p ∉ D → q ∈ D → f p ≤ g q)
    (hk : D.card + k ≤ n) : Lists g fun i : Fin k => round big f D i := by
  have hnot : ∀ i : Fin k, round big f D i ∉ D := fun i h =>
    round_not_mem hbig (r := i) (by have := i.isLt; omega) ((mem_hidden ..).mpr (Or.inl h))
  refine ⟨round_injective hbig hk, fun i j hij => ?_, fun i p hp => ?_⟩
  · simp only [hoff _ (hnot i), hoff _ (hnot j)]
    refine le_of_key_le (round_key_le hbig (by have := i.isLt; omega) _ fun hm => ?_)
    exact round_not_mem hbig (r := j) (by have := j.isLt; omega) ((mem_hidden ..).mpr
      (((mem_hidden ..).mp hm).imp id fun ⟨s, hs, he⟩ => ⟨s, hs.trans hij, he⟩))
  · simp only [hoff _ (hnot i)]
    by_cases hpD : p ∈ D
    · exact hon _ _ (hnot i) hpD
    · rw [hoff p hpD]
      refine le_of_key_le (round_key_le hbig (by have := i.isLt; omega) _ fun hm => ?_)
      rcases (mem_hidden ..).mp hm with h | ⟨s, hs, he⟩
      · exact hpD h
      · exact hp ⟨s, hs.trans i.isLt⟩ he

end rounds

end Cert.Select

end
-- ==== Proof.Spec.lean ====
/-
  One key point's loss as a function of real numbers: what both programs compute, row by row.
-/
module

public import proofs.«01_k».proof.Proof.Consts
public import proofs.«01_k».proof.Proof.Select

@[expose] public section

noncomputable section

namespace Cert.Spec

open Idealize.ShloMosaic Cert.Consts Cert.Select

/-- A coordinate of the image, in cells. -/
def frac (y : ℝ) : ℝ := y * (1 / 16) - 1 / 2

/-- The grid line below. -/
def lo (y : ℝ) : ℝ := ((⌊frac y⌋ : ℤ) : ℝ)

/-- The grid line above. -/
def hi (y : ℝ) : ℝ := lo y + 1

/-- The weight of the line above. -/
def wHi (y : ℝ) : ℝ := frac y - lo y

/-- The weight of the line below. -/
def wLo (y : ℝ) : ℝ := 1 - wHi y

/-- Whether row `p` and column `q` lie on the grid. -/
def Inside (p q : ℝ) : Prop := ((0 ≤ p ∧ p ≤ 31) ∧ 0 ≤ q) ∧ q ≤ 31

instance (p q : ℝ) : Decidable (Inside p q) := Classical.propDecidable _

/-- The weight `w` of a corner, and nothing outside the grid. -/
def corner (p q w : ℝ) : ℝ := if Inside p q then w else 0

theorem coe_nonneg' (p : ℝ) : ((0 : EReal) ≤ (p : EReal)) = (0 ≤ p) := propext EReal.coe_nonneg

theorem coe_le_31 (p : ℝ) : ((p : EReal) ≤ Ideal.ofBits .f32 0x41F80000#32) = (p ≤ 31) := by
  rw [lit_31]; exact propext EReal.coe_le_coe_iff

/-- The four comparisons of a corner. -/
theorem inside_word (p q : ℝ) :
    IntOp.andi (IntOp.andi (IntOp.andi (BitVec.ofBool (decide ((0 : EReal) ≤ (p : EReal))))
      (BitVec.ofBool (decide ((p : EReal) ≤ Ideal.ofBits .f32 0x41F80000#32))))
      (BitVec.ofBool (decide ((0 : EReal) ≤ (q : EReal))))) (BitVec.ofBool (decide ((q : EReal) ≤ Ideal.ofBits .f32 0x41F80000#32)))
      = BitVec.ofBool (decide (Inside p q)) := by
  simp only [coe_nonneg', coe_le_31, andi_ofBool]
  exact congrArg BitVec.ofBool (decide_eq_decide.mpr Iff.rfl)

/-- A coordinate's word. -/
theorem coord_word (p : ℝ) :
    (FloatOps.fptosi 32 (min (Ideal.ofBits .f32 0x41F80000#32) (max 0 (p : EReal)) : Ideal .f32) : BitVec 32)
      = BitVec.ofNat 32 (coord p).val := by
  rw [lit_31, show (0 : EReal) = ((0 : ℝ) : EReal) from rfl, max_coe, min_coe]
  exact fptosi_coord p

/-- The cell at row `p` and column `q`, both kept on the grid. -/
def cell (p q : ℝ) : Fin 1024 := ⟨32 * (coord p).val + (coord q).val, by have := (coord p).isLt; have := (coord q).isLt; omega⟩

variable (y x : ℝ) (a : Fin 192 → ℝ) (b : Fin 1024 → Fin 192 → ℝ)

/-- The grid of descriptors `b` at the point `(y, x)`, interpolated between the four cells around it. -/
def sampled (j : Fin 192) : ℝ :=
  corner (lo y) (lo x) (wLo y * wLo x) * b (cell (lo y) (lo x)) j
    + corner (lo y) (hi x) (wLo y * wHi x) * b (cell (lo y) (hi x)) j
    + corner (hi y) (lo x) (wHi y * wLo x) * b (cell (hi y) (lo x)) j
    + corner (hi y) (hi x) (wHi y * wHi x) * b (cell (hi y) (hi x)) j

/-- The length by which the interpolated descriptor is divided. -/
def len : ℝ := max (Real.sqrt (∑ j, sampled y x b j * sampled y x b j)) eps

theorem len_pos : 0 < len y x b := lt_of_lt_of_le eps_pos (le_max_right _ _)

/-- The distance between descriptor `a` and the normalised interpolated one. -/
def positive : ℝ := 2 - 2 * (∑ j, a j * sampled y x b j) / len y x b

/-- The distance between descriptor `a` and cell `c`'s. -/
def sim (c : Fin 1024) : ℝ := 2 - 2 * ∑ j, a j * b c j

/-- The distance between the point `(y, x)` and the centre of cell `c`. -/
def dist (c : Fin 1024) : ℝ :=
  Real.sqrt ((x - (((c.val % 32 : ℕ) : ℝ) * 16 + 8)) * (x - (((c.val % 32 : ℕ) : ℝ) * 16 + 8))
    + (y - (((c.val / 32 : ℕ) : ℝ) * 16 + 8)) * (y - (((c.val / 32 : ℕ) : ℝ) * 16 + 8)))

/-- The four cells nearest to the point. -/
def near : Finset (Fin 1024) := hidden big (dist y x) ∅ 4

/-- The `k`-th smallest distance to a descriptor, the four nearest cells left out. -/
def negative (k : ℕ) : ℝ := sim a b (round big (sim a b) (near y x) k)

/-- What one of the four comparisons adds to the loss. -/
def hinge (k : ℕ) : ℝ := max (positive y x a b - negative y x a b k + 1) 0

/-- The first result: the comparisons' mean. -/
def loss (P : Fin 1024 → Fin 2 → ℝ) (A B : Fin 1024 → Fin 192 → ℝ) : ℝ := (∑ n, ∑ k : Fin 4, hinge (P n 0) (P n 1) (A n) B k) / 4096

/-- The second result: the mean of the distances to the interpolated descriptors. -/
def mean (P : Fin 1024 → Fin 2 → ℝ) (A B : Fin 1024 → Fin 192 → ℝ) : ℝ := (∑ n, positive (P n 0) (P n 1) (A n) B) / 1024

end Cert.Spec

end
-- ==== Proof.KernelRun.lean ====
module
public import proofs.«01_k».proof.Proof.Gen.KernelIdeal.Frame
public import Idealize.ShloMosaic.Lib.Pipeline.Value
public import Idealize.ShloMosaic.Lib.Pipeline.ValueKit.Geometry
public import Idealize.ShloMosaic.Lib.Pipeline.ValueKit.Point
public import Idealize.ShloMosaic.Lib.Pointwise
public import Idealize.ShloMosaic.Lib.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

theorem hz : (![0, 0] : Fin 2 → Nat) = fun _ => 0 := funext fun a => by fin_cases a <;> rfl

/-! ## What one grid point adds, as a function of its blocks -/

/-- The column number of every entry of a 256 × 1024 block. -/
abbrev cols : IVec S256x1024 32 := iota .tc S256x1024 32 [1] iota_S256x1024_d1_w32

/-- The first coordinate of each of the block's key points. -/
abbrev yCol (x0 : Vec F S256x2 .f32) : Vec F S256x1 .f32 := View.ld x0 (Rect.unit ![0, 0] ![256, 1] inb_S256x2_S256x1_0_0)

/-- The second coordinate of each of the block's key points. -/
abbrev xCol (x0 : Vec F S256x2 .f32) : Vec F S256x1 .f32 := View.ld x0 (Rect.unit ![0, 1] ![256, 1] inb_S256x2_S256x1_0_1)

/-- The interpolation weights of the two upper corners, spread over the cells. -/
def upper (x0 : Vec F S256x2 .f32) : FVec F S256x1024 .f32 :=
  k0_pay23 cols (k0_pay16 cols (k0_pay7 (xCol x0)) (k0_pay8 (yCol x0)) (k0_pay13 (yCol x0) (xCol x0))
    (k0_pay14 (yCol x0) (xCol x0)) (FloatOps.ofBits .f32 0x41F80000#32) k0_pay15)
    (k0_pay18 (k0_pay9 (xCol x0)) (k0_pay12 (yCol x0))) (k0_pay19 (k0_pay7 (xCol x0)) (k0_pay8 (yCol x0)))
    (k0_pay20 (k0_pay8 (yCol x0))) (k0_pay21 (k0_pay7 (xCol x0))) k0_pay22

/-- The interpolation weight of the lower left corner, spread over the cells. -/
def lowerLeft (x0 : Vec F S256x2 .f32) : FVec F S256x1024 .f32 :=
  k0_pay24 cols (k0_pay7 (xCol x0)) (k0_pay8 (yCol x0)) (k0_pay10 (xCol x0)) (k0_pay11 (yCol x0))

/-- The distance of each key point's descriptor to the descriptor sampled at its image. -/
def pos (x0 : Vec F S256x2 .f32) (x1 : Vec F S256x192 .f32) (x2 : Vec F S1024x192 .f32) : FVec F S256x1 .f32 :=
  k0_pay28
    (k0_pay26 x1 (k0_pay3 x2) cols (k0_pay7 (xCol x0)) (k0_pay8 (yCol x0)) (k0_pay9 (xCol x0)) (k0_pay11 (yCol x0))
      (upper x0) (lowerLeft x0))
    (k0_pay27 (k0_pay3 x2) cols (k0_pay7 (xCol x0)) (k0_pay8 (yCol x0)) (k0_pay9 (xCol x0)) (k0_pay11 (yCol x0))
      (upper x0) (lowerLeft x0))

/-- The distance of each key point to each cell's centre. -/
abbrev gaps (x0 : Vec F S256x2 .f32) : FVec F S256x1024 .f32 := k0_pay30 (yCol x0) (xCol x0) cols

/-- The nearest cell of each key point. -/
abbrev nearest (x0 : Vec F S256x2 .f32) : IVec S256x1 32 := k0_pay31 (yCol x0) (xCol x0) cols

/-- The descriptor distances with the three nearest cells hidden. -/
abbrev hidden3 (x0 : Vec F S256x2 .f32) (x1 : Vec F S256x192 .f32) (x3 : Vec F S192x1024 .f32) : FVec F S256x1024 .f32 :=
  k0_pay37 cols (k0_pay29 x1 (k0_pay4 x3)) (gaps x0) (nearest x0)

/-- Where the fourth nearest cell is. -/
abbrev hit3 (x0 : Vec F S256x2 .f32) : IVec S256x1024 1 := k0_pay38 cols (gaps x0) (nearest x0)

/-- The filler. -/
abbrev filler : F .f32 := FloatOps.ofBits .f32 0x7149F2CA#32

/-- The block's part of the loss. -/
def loss (x0 : Vec F S256x2 .f32) (x1 : Vec F S256x192 .f32) (x2 : Vec F S1024x192 .f32) (x3 : Vec F S192x1024 .f32) : F .f32 :=
  k0_pay46 cols (pos x0 x1 x2) (k0_pay41 cols (hidden3 x0 x1 x3) (hit3 x0) filler)
    (k0_pay43 cols (pos x0 x1 x2) (hidden3 x0 x1 x3) (hit3 x0) filler)
    (k0_pay44 cols (hidden3 x0 x1 x3) (hit3 x0) filler) k0_pay45

/-- The block's part of the sum of positive distances. -/
def posSum (x0 : Vec F S256x2 .f32) (x1 : Vec F S256x192 .f32) (x2 : Vec F S1024x192 .f32) : F .f32 :=
  k0_pay47 (pos x0 x1 x2)

theorem out_B_4 (c : Dev nD) (i : grid0.Coords) (arg1 : Memref sig .tc .vmem S256x2 .f32) (h1 : arg1.IsWhole)
    (arg2 : Memref sig .tc .vmem S256x192 .f32) (h2 : arg2.IsWhole) (arg3 : Memref sig .tc .vmem S1024x192 .f32)
    (h3 : arg3.IsWhole) (arg4 : Memref sig .tc .vmem S192x1024 .f32) (h4 : arg4.IsWhole)
    (arg5 : Memref sig .tc .vmem S1x1 .f32) (h5 : arg5.IsWhole) (arg6 : Memref sig .tc .vmem S1x1 .f32) (h6 : arg6.IsWhole)
    (hc : ¬cond0_0 i) (x0 : Vec F S256x2 .f32) (x1 : Vec F S256x192 .f32) (x2 : Vec F S1024x192 .f32)
    (x3 : Vec F S192x1024 .f32) (xo4 xo5 : Vec F S1x1 .f32) :
    out0_B_4 c i arg1 h1 arg2 h2 arg3 h3 arg4 h4 arg5 h5 arg6 h6 hc x0 x1 x2 x3 xo4 xo5 = k0_pay1 (loss x0 x1 x2 x3) xo4 := by
  unfold out0_B_4
  rw [View.read_writes_eq_canon _ _ _ (cover0_B_4 c i arg1 h1 arg2 h2 arg3 h3 arg4 h4 arg5 h5 arg6 h6 hc x0 x1 x2 x3 xo4 xo5)]
  unfold kernelRun0_B
  dsimp only
  sl_unfold_words
  rw [View.canon_unit_zero hz]
  simp only [View.readAt_eq_ld, h1.read_unread, h2.read_unread, h3.read_unread, h4.read_unread, h5.read_unread,
    h6.read_unread, View.ld_unit_zero (S := S256x192) hz, View.ld_unit_zero (S := S1024x192) hz,
    View.ld_unit_zero (S := S192x1024) hz, View.ld_unit_zero (S := S1x1) hz]
  rfl

theorem out_B_5 (c : Dev nD) (i : grid0.Coords) (arg1 : Memref sig .tc .vmem S256x2 .f32) (h1 : arg1.IsWhole)
    (arg2 : Memref sig .tc .vmem S256x192 .f32) (h2 : arg2.IsWhole) (arg3 : Memref sig .tc .vmem S1024x192 .f32)
    (h3 : arg3.IsWhole) (arg4 : Memref sig .tc .vmem S192x1024 .f32) (h4 : arg4.IsWhole)
    (arg5 : Memref sig .tc .vmem S1x1 .f32) (h5 : arg5.IsWhole) (arg6 : Memref sig .tc .vmem S1x1 .f32) (h6 : arg6.IsWhole)
    (hc : ¬cond0_0 i) (x0 : Vec F S256x2 .f32) (x1 : Vec F S256x192 .f32) (x2 : Vec F S1024x192 .f32)
    (x3 : Vec F S192x1024 .f32) (xo4 xo5 : Vec F S1x1 .f32) :
    out0_B_5 c i arg1 h1 arg2 h2 arg3 h3 arg4 h4 arg5 h5 arg6 h6 hc x0 x1 x2 x3 xo4 xo5 = k0_pay2 (posSum x0 x1 x2) xo5 := by
  unfold out0_B_5
  rw [View.read_writes_eq_canon _ _ _ (cover0_B_5 c i arg1 h1 arg2 h2 arg3 h3 arg4 h4 arg5 h5 arg6 h6 hc x0 x1 x2 x3 xo4 xo5)]
  unfold kernelRun0_B
  dsimp only
  sl_unfold_words
  rw [View.canon_unit_zero hz]
  simp only [View.readAt_eq_ld, h1.read_unread, h2.read_unread, h3.read_unread, h4.read_unread, h5.read_unread,
    h6.read_unread, View.ld_unit_zero (S := S256x192) hz, View.ld_unit_zero (S := S1024x192) hz,
    View.ld_unit_zero (S := S192x1024) hz, View.ld_unit_zero (S := S1x1) hz]
  rfl

theorem out_A_4 (c : Dev nD) (i : grid0.Coords) (arg1 : Memref sig .tc .vmem S256x2 .f32) (h1 : arg1.IsWhole)
    (arg2 : Memref sig .tc .vmem S256x192 .f32) (h2 : arg2.IsWhole) (arg3 : Memref sig .tc .vmem S1024x192 .f32)
    (h3 : arg3.IsWhole) (arg4 : Memref sig .tc .vmem S192x1024 .f32) (h4 : arg4.IsWhole)
    (arg5 : Memref sig .tc .vmem S1x1 .f32) (h5 : arg5.IsWhole) (arg6 : Memref sig .tc .vmem S1x1 .f32) (h6 : arg6.IsWhole)
    (hc : cond0_0 i) (x0 : Vec F S256x2 .f32) (x1 : Vec F S256x192 .f32) (x2 : Vec F S1024x192 .f32)
    (x3 : Vec F S192x1024 .f32) :
    out0_A_4 c i arg1 h1 arg2 h2 arg3 h3 arg4 h4 arg5 h5 arg6 h6 hc x0 x1 x2 x3 = k0_pay1 (loss x0 x1 x2 x3) k0_pay48 := by
  unfold out0_A_4
  rw [View.read_writes_eq_canon _ _ _ (cover0_A_4 c i arg1 h1 arg2 h2 arg3 h3 arg4 h4 arg5 h5 arg6 h6 hc x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    h6.read_unread, View.ld_unit_zero (S := S256x192) hz, View.ld_unit_zero (S := S1024x192) hz,
    View.ld_unit_zero (S := S192x1024) hz, View.ld_unit_zero (S := S1x1) hz]
  rfl

theorem out_A_5 (c : Dev nD) (i : grid0.Coords) (arg1 : Memref sig .tc .vmem S256x2 .f32) (h1 : arg1.IsWhole)
    (arg2 : Memref sig .tc .vmem S256x192 .f32) (h2 : arg2.IsWhole) (arg3 : Memref sig .tc .vmem S1024x192 .f32)
    (h3 : arg3.IsWhole) (arg4 : Memref sig .tc .vmem S192x1024 .f32) (h4 : arg4.IsWhole)
    (arg5 : Memref sig .tc .vmem S1x1 .f32) (h5 : arg5.IsWhole) (arg6 : Memref sig .tc .vmem S1x1 .f32) (h6 : arg6.IsWhole)
    (hc : cond0_0 i) (x0 : Vec F S256x2 .f32) (x1 : Vec F S256x192 .f32) (x2 : Vec F S1024x192 .f32)
    (x3 : Vec F S192x1024 .f32) :
    out0_A_5 c i arg1 h1 arg2 h2 arg3 h3 arg4 h4 arg5 h5 arg6 h6 hc x0 x1 x2 x3 = k0_pay2 (posSum x0 x1 x2) k0_pay49 := by
  unfold out0_A_5
  rw [View.read_writes_eq_canon _ _ _ (cover0_A_5 c i arg1 h1 arg2 h2 arg3 h3 arg4 h4 arg5 h5 arg6 h6 hc x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    h6.read_unread, View.ld_unit_zero (S := S256x192) hz, View.ld_unit_zero (S := S1024x192) hz,
    View.ld_unit_zero (S := S192x1024) hz, View.ld_unit_zero (S := S1x1) hz]
  rfl

/-! ## The accumulators over the grid -/

variable (m : (ℓ : Loc nD τ sig) → Buf (Elt F) ℓ)

/-- The loss of grid point `t`'s block. -/
def lossAt (c : Dev nD) (t : Fin cfg0.N) : F .f32 := loss (iblk m c 0 t) (iblk m c 1 t) (iblk m c 2 t) (iblk m c 3 t)

/-- The sum of positive distances of grid point `t`'s block. -/
def posSumAt (c : Dev nD) (t : Fin cfg0.N) : F .f32 := posSum (iblk m c 0 t) (iblk m c 1 t) (iblk m c 2 t)

/-- The two accumulators after point `n`. -/
def chain (c : Dev nD) : (n : ℕ) → n < cfg0.N → Vec F S1x1 .f32 × Vec F S1x1 .f32
  | 0, h => (k0_pay1 (lossAt m c ⟨0, h⟩) k0_pay48, k0_pay2 (posSumAt m c ⟨0, h⟩) k0_pay49)
  | n + 1, h => (k0_pay1 (lossAt m c ⟨n + 1, h⟩) (chain c n (Nat.lt_of_succ_lt h)).1,
      k0_pay2 (posSumAt m c ⟨n + 1, h⟩) (chain c n (Nat.lt_of_succ_lt h)).2)

/-- What the output buffers hold after point `n` is the running pair. -/
theorem outsAt_eq (c : Dev nD) : ∀ (n : ℕ) (h : n < cfg0.N), outsAt0 m c n h = chain m c n h
  | 0, h => (outsAt0_A m c ⟨0, h⟩ rfl).trans (by rw [out_A_4, out_A_5]; rfl)
  | n + 1, h => by
    have hN : cfg0.N = 4 := N_0
    have hB : ¬(⟨n + 1, h⟩ : Fin cfg0.N).val % 4 = 0 := by dsimp only; omega
    rw [outsAt0_B m c ⟨n + 1, h⟩ hB, out_B_4, out_B_5]
    show (k0_pay1 _ (outsAt0 m c n _).1, k0_pay2 _ (outsAt0 m c n _).2) = _
    rw [outsAt_eq c n]
    rfl

/-- The accumulators after the last point. -/
abbrev last (c : Dev nD) : Vec F S1x1 .f32 × Vec F S1x1 .f32 := chain m c 3 (by rw [show cfg0.N = 4 from N_0]; decide)

/-- A 1 × 1 block has one index. -/
theorem idx_one (i j : S1x1.Idx) : i = j := funext fun a => Fin.ext (by
  have hi := (i a).isLt
  have hj := (j a).isLt
  have : S1x1.size a = 1 := by fin_cases a <;> rfl
  omega)

theorem final_4 (c : Dev nD) : (dats m 0 c).arrAt 4 cfg0.N = (last m c).1 := by
  refine (dats m 0 c).arrAt_eq_of_covers 4 _ (by decide +kernel) fun t hf y => ?_
  have hN : cfg0.N = 4 := N_0
  have h3 : t.val = 3 := by have := (flush0_4 t).mp hf; have := t.isLt; omega
  obtain rfl : t = t0_3 := Fin.ext h3
  blk_simp
  rw [after0_4, outsAt_eq]
  exact congrArg (last m c).1 (idx_one _ _)

theorem final_5 (c : Dev nD) : (dats m 0 c).arrAt 5 cfg0.N = (last m c).2 := by
  refine (dats m 0 c).arrAt_eq_of_covers 5 _ (by decide +kernel) fun t hf y => ?_
  have hN : cfg0.N = 4 := N_0
  have h3 : t.val = 3 := by have := (flush0_5 t).mp hf; have := t.isLt; omega
  obtain rfl : t = t0_3 := Fin.ext h3
  blk_simp
  rw [after0_5, outsAt_eq]
  exact congrArg (last m c).2 (idx_one _ _)

/-! ## The results after the region -/

/-- The first result: the loss, divided by the number of its terms. -/
theorem result_0 (c : Dev nD) :
    Pipeline.afterTail₀ cfgs (dats m) 0 (V0 m) [hostOps1] c main_v3_0 =
      Host.divf (shapeCast S_ (last m c).1 shapeCasts_S1x1_S_) (constant S_ .f32 0x45800000#32) := by
  unfold Pipeline.afterTail₀
  rw [show ([hostOps1] : List (List (HloOp τ sig (Elt F)))).flatten = hostOps1 from List.append_nil _]
  unfold hostOps1
  after_results
  exact congrArg (fun z => Host.divf (shapeCast S_ z shapeCasts_S1x1_S_) (constant S_ .f32 0x45800000#32))
    ((Pipeline.withArrays_arr (cfgs 0).spec (by decide) c (V0 m c) (fun w => (dats m 0 c).arrAt w (cfgs 0).N) 4).trans
      (final_4 m c))

/-- The second result: the mean positive distance. -/
theorem result_1 (c : Dev nD) :
    Pipeline.afterTail₀ cfgs (dats m) 0 (V0 m) [hostOps1] c main_v3_1 =
      Host.divf (shapeCast S_ (last m c).2 shapeCasts_S1x1_S_) (constant S_ .f32 0x44800000#32) := by
  unfold Pipeline.afterTail₀
  rw [show ([hostOps1] : List (List (HloOp τ sig (Elt F)))).flatten = hostOps1 from List.append_nil _]
  unfold hostOps1
  after_results
  exact congrArg (fun z => Host.divf (shapeCast S_ z shapeCasts_S1x1_S_) (constant S_ .f32 0x44800000#32))
    ((Pipeline.withArrays_arr (cfgs 0).spec (by decide) c (V0 m c) (fun w => (dats m 0 c).arrAt w (cfgs 0).N) 5).trans
      (final_5 m c))

/-- The run, read at the results and the arguments. -/
theorem run (ρ : Dev nD → PrngReg) : θ_run defs (onTc (τ := τ) (main (F := F))) ⟨m, fun _ => 0, ρ⟩ fun r => ∀ c : Dev nD,
      r.2.mem ((c.tc : Thread nD τ).loc main_v3_0)
        = Host.divf (shapeCast S_ (last m c).1 shapeCasts_S1x1_S_) (constant S_ .f32 0x45800000#32)
      ∧ r.2.mem ((c.tc : Thread nD τ).loc main_v3_1)
        = Host.divf (shapeCast S_ (last m c).2 shapeCasts_S1x1_S_) (constant S_ .f32 0x44800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨((h.1 c).2 main_v3_0 (by decide)).trans (result_0 m c), ((h.1 c).2 main_v3_1 (by decide)).trans (result_1 m c),
      h.2 c⟩)
    (θ_run_and (run_main m ρ) (unchanged m ρ))

/-! ## The blocks, at an index -/

theorem blocks (t : Fin cfg0.N) : win0_0.index t = ![t.val, 0] ∧ win0_1.index t = ![t.val, 0]
    ∧ win0_2.index t = ![0, 0] ∧ win0_3.index t = ![0, 0] := by
  rcases fin_N0 t with rfl | rfl | rfl | rfl <;> decide

/-- Row `r` of block `t`. -/
abbrev rowAt (t : Fin cfg0.N) (r : Fin 256) : Fin 1024 := ⟨256 * t.val + r.val, by
  have := t.isLt; have hN : cfg0.N = 4 := N_0; have := r.isLt; omega⟩

theorem block_0 (c : Dev nD) (t : Fin cfg0.N) (r : Fin 256) (j : Fin 2) :
    iblk m c 0 t (ix2 r j) = m ((c.tc : Thread nD τ).loc main_arg1) (ix2 (rowAt t r) j) := by
  have e := blocks t
  blk_ext [iblk, V, e.1]

theorem block_1 (c : Dev nD) (t : Fin cfg0.N) (r : Fin 256) (j : Fin 192) :
    iblk m c 1 t (ix2 r j) = m ((c.tc : Thread nD τ).loc main_arg2) (ix2 (rowAt t r) j) := by
  have e := blocks t
  blk_ext [iblk, V, e.2.1]

/-- The descriptor grid with its cells laid out in one axis. -/
abbrev grid2 (c : Dev nD) : Vec F S192x1024 .f32 :=
  shapeCast S192x1024 (shapeCast S192x32x32 (m ((c.tc : Thread nD τ).loc main_arg3)) shapeCasts_S1x192x32x32_S192x32x32)
    shapeCasts_S192x32x32_S192x1024

theorem entry_v1 (c : Dev nD) : V m c main_v1 = grid2 m c := by
  show StableHlo.after [hostOps0].flatten _ _ = _
  rw [show ([hostOps0] : List (List (HloOp τ sig (Elt F)))).flatten = hostOps0 from List.append_nil _]
  unfold hostOps0
  after_results
  rfl

theorem entry_v2 (c : Dev nD) : V m c main_v2 = transpose S1024x192 [1, 0] (grid2 m c) transposes_S192x1024_S1024x192_1_0 := by
  show StableHlo.after [hostOps0].flatten _ _ = _
  rw [show ([hostOps0] : List (List (HloOp τ sig (Elt F)))).flatten = hostOps0 from List.append_nil _]
  unfold hostOps0
  after_results
  rfl

theorem merge_apply {α : Type} (x : S1x192x32x32.Idx → α) (h : S1x192x32x32.ShapeCasts S192x32x32)
    (h' : S192x32x32.ShapeCasts S192x1024) (k : Fin 192) (j : Fin 1024) :
    shapeCast S192x1024 (shapeCast S192x32x32 x h) h' (ix2 k j) = x (ix4 0 k ⟨j.val / 32, by omega⟩ ⟨j.val % 32, by omega⟩) := by
  pointwise

theorem grid2_apply (c : Dev nD) (k : Fin 192) (j : Fin 1024) :
    grid2 m c (ix2 k j) = m ((c.tc : Thread nD τ).loc main_arg3) (ix4 0 k ⟨j.val / 32, by omega⟩ ⟨j.val % 32, by omega⟩) :=
  merge_apply _ _ _ k j

theorem block_3 (c : Dev nD) (t : Fin cfg0.N) (k : Fin 192) (j : Fin 1024) :
    iblk m c 3 t (ix2 k j) = grid2 m c (ix2 k j) := by
  have e := blocks t
  rw [← entry_v1]
  blk_ext [iblk, e.2.2.2]

theorem block_2 (c : Dev nD) (t : Fin cfg0.N) (j : Fin 1024) (k : Fin 192) :
    iblk m c 2 t (ix2 j k) = grid2 m c (ix2 k j) := by
  have e := blocks t
  have e2 : V m c main_v2 (ix2 j k) = grid2 m c (ix2 k j) := by
    rw [entry_v2]
    generalize grid2 m c = x
    pointwise
  rw [← e2]
  blk_ext [iblk, e.2.2.1]

end Cert.KernelIdeal.Value

end
-- ==== Proof.KernelRow.lean ====
/-
  What one grid point of the kernel computes, read row by row at real numbers.
-/
module

public import proofs.«01_k».proof.Proof.Spec
public import proofs.«01_k».proof.Proof.KernelRun

@[expose] public section

set_option maxRecDepth 16384

noncomputable section

open Idealize.ShloMosaic Idealize.ShloMosaic.TcCoe

namespace Cert.KernelIdeal.Row

open Cert.KernelIdeal Cert.KernelIdeal.Gen Cert.KernelIdeal.Value Cert.Spec Cert.Consts Cert.Select

/-- The column `v` holds the real numbers `f`. -/
abbrev Holds (v : FVec Ideal S256x1 .f32) (f : Fin 256 → ℝ) : Prop := ∀ r, v (ix2 r 0) = ((f r : ℝ) : EReal)

/-! ## Words -/

/-- One corner's weight at column `j`. -/
theorem corner_word (p q w : ℝ) (j : Fin 1024) :
    Scalar.select (IntOp.cmpi .eq (BitVec.ofNat 32 j.val)
      (IntOp.addi (IntOp.muli (BitVec.ofNat 32 (coord p).val) 32#32) (BitVec.ofNat 32 (coord q).val)))
      (Scalar.select (BitVec.ofBool (decide (Inside p q))) (w : EReal) 0) 0
      = (((if j = cell p q then corner p q w else 0 : ℝ)) : EReal) := by
  have hc := (cell p q).isLt
  rw [cell_word, eq_word (by omega) (by unfold cell at hc; dsimp only at hc; omega), select_ofBool, select_ofBool]
  have e : (j.val = 32 * (coord p).val + (coord q).val) = (j = cell p q) := propext (Fin.ext_iff (b := cell p q)).symm
  simp only [e, corner]
  split_ifs <;> rfl

/-- The line above, from the line below. -/
theorem hi_coe (y : ℝ) : ((lo y : ℝ) : EReal) + 1 = ((hi y : ℝ) : EReal) := rfl

/-- One corner's weight at column `j`, from its coordinates and its weight. -/
theorem corner_full (p q w : ℝ) (j : Fin 1024) :
    Scalar.select (IntOp.cmpi .eq (BitVec.ofNat 32 j.val)
      (IntOp.addi (IntOp.muli (FloatOps.fptosi 32 (min (Ideal.ofBits .f32 0x41F80000#32) (max 0 (p : EReal)) : Ideal .f32)) 32#32)
        (FloatOps.fptosi 32 (min (Ideal.ofBits .f32 0x41F80000#32) (max 0 (q : EReal)) : Ideal .f32))))
      (Scalar.select (IntOp.andi (IntOp.andi (IntOp.andi (BitVec.ofBool (decide ((0 : EReal) ≤ (p : EReal))))
      (BitVec.ofBool (decide ((p : EReal) ≤ Ideal.ofBits .f32 0x41F80000#32))))
      (BitVec.ofBool (decide ((0 : EReal) ≤ (q : EReal))))) (BitVec.ofBool (decide ((q : EReal) ≤ Ideal.ofBits .f32 0x41F80000#32))))
        (w : EReal) 0) 0
      = (((if j = cell p q then corner p q w else 0 : ℝ)) : EReal) := by
  rw [coord_word, coord_word, inside_word]
  exact corner_word p q w j

/-! ## The columns of one block -/

variable {v0 v1 : Vec Ideal S256x1 .f32} {y x : Fin 256 → ℝ}

theorem pay5 (hy : Holds v0 y) : Holds (k0_pay5 v0) fun r => frac (y r) := by
  intro r
  unfold k0_pay5
  pointwise
  rw [hy, lit_16th, lit_half]
  rfl

theorem pay6 (hx : Holds v1 x) : Holds (k0_pay6 v1) fun r => frac (x r) := pay5 hx

theorem pay8 (hy : Holds v0 y) : Holds (k0_pay8 v0) fun r => lo (y r) := by
  intro r
  unfold k0_pay8
  pointwise
  rw [pay5 hy]
  rfl

theorem pay7 (hx : Holds v1 x) : Holds (k0_pay7 v1) fun r => lo (x r) := pay8 hx

theorem pay11 (hy : Holds v0 y) : Holds (k0_pay11 v0) fun r => wHi (y r) := by
  intro r
  unfold k0_pay11
  pointwise
  rw [pay5 hy, pay8 hy]
  rfl

theorem pay9 (hx : Holds v1 x) : Holds (k0_pay9 v1) fun r => wHi (x r) := pay11 hx

theorem pay12 (hy : Holds v0 y) : Holds (k0_pay12 v0) fun r => wLo (y r) := by
  intro r
  unfold k0_pay12
  pointwise
  rw [pay11 hy]
  rfl

theorem pay10 (hx : Holds v1 x) : Holds (k0_pay10 v1) fun r => wLo (x r) := pay12 hx

theorem pay13 (hy : Holds v0 y) (hx : Holds v1 x) : Holds (k0_pay13 v0 v1) fun r => wLo (y r) * wLo (x r) := by
  intro r
  unfold k0_pay13
  pointwise
  rw [pay12 hy, pay10 hx]
  rfl

theorem pay14 (hy : Holds v0 y) (hx : Holds v1 x) (r : Fin 256) :
    k0_pay14 v0 v1 (ix2 r 0) = BitVec.ofBool (decide (Inside (lo (y r)) (lo (x r)))) := by
  unfold k0_pay14
  pointwise
  rw [pay8 hy, pay7 hx]
  exact inside_word _ _

/-- A column with one added. -/
theorem pay17 {v : FVec Ideal S256x1 .f32} {f : Fin 256 → ℝ} (h : Holds v f) : Holds (k0_pay17 v) fun r => f r + 1 := by
  intro r
  unfold k0_pay17
  pointwise
  rw [h]
  rfl

theorem pay18 {v18 v23 : FVec Ideal S256x1 .f32} {f g : Fin 256 → ℝ} (hf : Holds v18 f) (hg : Holds v23 g) :
    Holds (k0_pay18 v18 v23) fun r => g r * f r := by
  intro r
  unfold k0_pay18
  pointwise
  rw [hf, hg]
  rfl

theorem pay19 (hy : Holds v0 y) (hx : Holds v1 x) (r : Fin 256) :
    k0_pay19 (k0_pay7 v1) (k0_pay8 v0) (ix2 r 0) = BitVec.ofBool (decide (Inside (lo (y r)) (hi (x r)))) := by
  unfold k0_pay19
  pointwise
  rw [pay8 hy, pay17 (pay7 hx)]
  exact inside_word _ _

/-- The first corner, spread over the cells. -/
theorem pay16 (hy : Holds v0 y) (hx : Holds v1 x) (r : Fin 256) (j : Fin 1024) :
    k0_pay16 cols (k0_pay7 v1) (k0_pay8 v0) (k0_pay13 v0 v1) (k0_pay14 v0 v1) (FloatOps.ofBits .f32 0x41F80000#32) k0_pay15 (ix2 r j)
      = ((if j = cell (lo (y r)) (lo (x r)) then corner (lo (y r)) (lo (x r)) (wLo (y r) * wLo (x r)) else 0 : ℝ) : EReal) := by
  unfold k0_pay16 k0_pay15
  pointwise
  rw [pay8 hy, pay7 hx, pay13 hy hx, pay14 hy hx, coord_word, coord_word]
  exact corner_word _ _ _ _

/-- The first two corners, spread over the cells. -/
theorem upper_at (x0 : Vec Ideal S256x2 .f32) (hy : Holds (yCol x0) y) (hx : Holds (xCol x0) x) (r : Fin 256) (j : Fin 1024) :
    upper x0 (ix2 r j)
      = (((if j = cell (lo (y r)) (lo (x r)) then corner (lo (y r)) (lo (x r)) (wLo (y r) * wLo (x r)) else 0)
        + (if j = cell (lo (y r)) (hi (x r)) then corner (lo (y r)) (hi (x r)) (wLo (y r) * wHi (x r)) else 0) : ℝ) : EReal) := by
  unfold upper
  have h16 := pay16 hy hx r j
  generalize k0_pay16 cols (k0_pay7 (xCol x0)) (k0_pay8 (yCol x0)) (k0_pay13 (yCol x0) (xCol x0))
    (k0_pay14 (yCol x0) (xCol x0)) (FloatOps.ofBits .f32 0x41F80000#32) k0_pay15 = w at h16 ⊢
  unfold k0_pay23 k0_pay22 k0_pay21 k0_pay20
  pointwise
  rw [h16, pay8 hy, pay17 (pay7 hx), pay18 (pay9 hx) (pay12 hy), pay19 hy hx, coord_word, coord_word]
  erw [corner_word]
  rfl

/-- The third corner, spread over the cells. -/
theorem lowerLeft_at (x0 : Vec Ideal S256x2 .f32) (hy : Holds (yCol x0) y) (hx : Holds (xCol x0) x) (r : Fin 256) (j : Fin 1024) :
    lowerLeft x0 (ix2 r j)
      = ((if j = cell (hi (y r)) (lo (x r)) then corner (hi (y r)) (lo (x r)) (wHi (y r) * wLo (x r)) else 0 : ℝ) : EReal) := by
  unfold lowerLeft k0_pay24
  pointwise
  simp only [pay8 hy _, pay7 hx _, pay11 hy _, pay10 hx _, hi_coe, ← EReal.coe_mul]
  exact corner_full _ _ _ _

/-- The interpolated descriptors of the block. -/
def sampledRows (x0 : Vec Ideal S256x2 .f32) (v4 : FVec Ideal S1024x192 .f32) : FVec Ideal S256x192 .f32 :=
  k0_pay25 v4 cols (k0_pay7 (xCol x0)) (k0_pay8 (yCol x0)) (k0_pay9 (xCol x0)) (k0_pay11 (yCol x0)) (upper x0) (lowerLeft x0)

theorem sampledRows_at (x0 : Vec Ideal S256x2 .f32) (v4 : FVec Ideal S1024x192 .f32) {b : Fin 1024 → Fin 192 → ℝ}
    (hy : Holds (yCol x0) y) (hx : Holds (xCol x0) x) (hb : ∀ c j, v4 (ix2 c j) = ((b c j : ℝ) : EReal)) (r : Fin 256) (j : Fin 192) :
    sampledRows x0 v4 (ix2 r j) = ((sampled (y r) (x r) b j : ℝ) : EReal) := by
  unfold sampledRows k0_pay25
  pointwise
  simp only [pay8 hy _, pay7 hx _, pay11 hy _, pay9 hx _, upper_at x0 hy hx, lowerLeft_at x0 hy hx, hb, hi_coe, corner_full,
    ← EReal.coe_add, ← EReal.coe_mul, sum_coe]
  congr 1
  simp only [add_mul, ite_mul, zero_mul, Finset.sum_add_distrib, Finset.sum_ite_eq', Finset.mem_univ, if_true, sampled]

variable {a : Fin 256 → Fin 192 → ℝ} {b : Fin 1024 → Fin 192 → ℝ}

/-- The block's positive distances. -/
theorem pos_at (x0 : Vec Ideal S256x2 .f32) (x1 : Vec Ideal S256x192 .f32) (x2 : Vec Ideal S1024x192 .f32)
    (hy : Holds (yCol x0) y) (hx : Holds (xCol x0) x) (ha : ∀ r j, x1 (ix2 r j) = ((a r j : ℝ) : EReal))
    (hb : ∀ c j, x2 (ix2 c j) = ((b c j : ℝ) : EReal)) : Holds (pos x0 x1 x2) fun r => positive (y r) (x r) (a r) b := by
  intro r
  have h25 := sampledRows_at x0 (k0_pay3 x2) hy hx (b := b) (fun c j => by unfold k0_pay3; pointwise; exact hb c j)
  unfold sampledRows at h25
  unfold pos k0_pay28 k0_pay26 k0_pay27
  pointwise
  simp only [h25, ha]
  rw [lit_2, lit_eps]
  simp only [← EReal.coe_mul, sum_coe]
  rw [sqrt_real (Finset.sum_nonneg fun j _ => mul_self_nonneg _), max_coe]
  change ((2 : ℝ) : EReal) - Ideal.div _ ((len (y r) (x r) b : ℝ) : EReal) = _
  rw [div_real (len_pos (y r) (x r) b).ne', ← EReal.coe_sub]
  rfl

/-- The block's descriptor distances to the cells. -/
theorem sims_at (x1 : Vec Ideal S256x192 .f32) (x3 : Vec Ideal S192x1024 .f32)
    (ha : ∀ r j, x1 (ix2 r j) = ((a r j : ℝ) : EReal))
    (hb : ∀ j c, x3 (ix2 j c) = ((b c j : ℝ) : EReal)) (r : Fin 256) (c : Fin 1024) :
    k0_pay29 x1 (k0_pay4 x3) (ix2 r c) = ((sim (a r) b c : ℝ) : EReal) := by
  unfold k0_pay29 k0_pay4
  pointwise
  simp only [hb, ha, lit_2, ← EReal.coe_mul, sum_coe, ← EReal.coe_sub]
  rfl

theorem column_word : ∀ c : Fin 1024, IntOp.andi (BitVec.ofNat 32 c.val) 31#32 = BitVec.ofNat 32 (c.val % 32) := by
  decide +kernel

theorem row_word : ∀ c : Fin 1024, IntOp.shrsi .vector (BitVec.ofNat 32 c.val) 5#32 = BitVec.ofNat 32 (c.val / 32) := by
  decide +kernel

/-- The block's distances to the cells' centres. -/
theorem gaps_at (x0 : Vec Ideal S256x2 .f32) (hy : Holds (yCol x0) y) (hx : Holds (xCol x0) x) (r : Fin 256) (c : Fin 1024) :
    gaps x0 (ix2 r c) = ((dist (y r) (x r) c : ℝ) : EReal) := by
  unfold gaps k0_pay30
  pointwise
  simp only [hy _, hx _, column_word, row_word]
  rw [sitofp_small (by omega), sitofp_small (by omega), lit_16, lit_8]
  simp only [← EReal.coe_mul, ← EReal.coe_add, ← EReal.coe_sub]
  exact sqrt_real (add_nonneg (mul_self_nonneg _) (mul_self_nonneg _))

/-! ## The least entry of a row -/

/-- The least entry of a row is the picked one. -/
theorem min_fold (g : Fin 1024 → ℝ) :
    Finset.fold min (Ideal.ofBits .f32 0x7F800000#32) (fun x => ((g x : ℝ) : EReal)) Finset.univ = ((g (pick g) : ℝ) : EReal) := by
  refine le_antisymm (Finset.fold_min_le _ |>.mpr (Or.inr ⟨pick g, Finset.mem_univ _, le_rfl⟩)) (Finset.le_fold_min _ |>.mpr ⟨?_, ?_⟩)
  · rw [lit_top]; exact le_top
  · exact fun x _ => EReal.coe_le_coe_iff.mpr (pick_le g x)

/-- The first column at which a row takes its least entry. -/
theorem arg_fold (g : Fin 1024 → ℝ) [∀ x, Decidable (((g x : ℝ) : EReal) = ((g (pick g) : ℝ) : EReal))] :
    Finset.fold IntOp.minsi 2147483647#32
      (fun x : Fin 1024 => if ((g x : ℝ) : EReal) = ((g (pick g) : ℝ) : EReal) then BitVec.ofNat 32 x.val else 1073741824#32) Finset.univ
      = BitVec.ofNat 32 (pick g).val := by
  have hint : ∀ x : Fin 1024, (BitVec.ofNat 32 x.val).toInt = (x.val : ℤ) := by decide +kernel
  apply BitVec.eq_of_toInt_eq
  rw [← Finset.fold_hom (op' := min) (m := BitVec.toInt) (fun x y => ?_), hint]
  · refine le_antisymm (Finset.fold_min_le _ |>.mpr (Or.inr ⟨pick g, Finset.mem_univ _, ?_⟩)) (Finset.le_fold_min _ |>.mpr ⟨?_, ?_⟩)
    · rw [if_pos rfl, hint]
    · have := (pick g).isLt
      rw [show (2147483647#32).toInt = 2147483647 from by decide]
      omega
    · intro x _
      have hp := (pick g).isLt
      split_ifs with h
      · rw [hint]
        exact_mod_cast pick_le_of_eq g x (EReal.coe_eq_coe_iff.mp h)
      · rw [show (1073741824#32).toInt = 1073741824 from by decide]
        omega
  · unfold IntOp.minsi
    simp only [BitVec.slt, BitVec.sle, decide_eq_true_eq]
    split_ifs <;> omega

/-- Whether column `c` is the picked one. -/
theorem hit_word (g : Fin 1024 → ℝ) (c : Fin 1024) :
    IntOp.cmpi .eq (BitVec.ofNat 32 c.val) (BitVec.ofNat 32 (pick g).val) = BitVec.ofBool (decide (c = pick g)) := by
  have := c.isLt
  have := (pick g).isLt
  rw [eq_word (by omega) (by omega)]
  exact congrArg BitVec.ofBool (decide_eq_decide.mpr Fin.ext_iff.symm)

/-- Hiding one more column of a row. -/
theorem hide_word (g : Fin 1024 → ℝ) (D : Finset (Fin 1024)) (q c : Fin 1024) :
    Scalar.select (BitVec.ofBool (decide (c = q))) (Ideal.ofBits .f32 0x7149F2CA#32) ((masked big g D c : ℝ) : EReal)
      = ((masked big g (insert q D) c : ℝ) : EReal) := by
  rw [select_ofBool, masked_insert, lit_big]
  split_ifs <;> rfl

theorem masked_empty (g : Fin 1024 → ℝ) : masked big g ∅ = g := funext fun c => if_neg (Finset.notMem_empty c)

/-! ## The nearest cells -/

/-- The cells hidden before round `k`. -/
abbrev before (y x : ℝ) (k : ℕ) : Finset (Fin 1024) := hidden big (dist y x) ∅ k

/-- The cell that round `k` picks. -/
abbrev cellOf (y x : ℝ) (k : ℕ) : Fin 1024 := round big (dist y x) ∅ k

theorem nearest_at (x0 : Vec Ideal S256x2 .f32) (hy : Holds (yCol x0) y) (hx : Holds (xCol x0) x) (r : Fin 256) :
    nearest x0 (ix2 r 0) = BitVec.ofNat 32 (cellOf (y r) (x r) 0).val := by
  have hg := gaps_at x0 hy hx
  unfold nearest k0_pay31
  pointwise
  simp only [hg, min_fold, arg_fold]
  show _ = BitVec.ofNat 32 (pick (masked big (dist (y r) (x r)) ∅)).val
  rw [masked_empty]

section Rounds

variable {w s : FVec Ideal S256x1024 .f32} {v : IVec S256x1 32} {a : Fin 256 → Fin 192 → ℝ} {b : Fin 1024 → Fin 192 → ℝ}

/-- `w` holds the distances to the cells. -/
abbrev Gaps (w : FVec Ideal S256x1024 .f32) (y x : Fin 256 → ℝ) : Prop := ∀ r c, w (ix2 r c) = ((dist (y r) (x r) c : ℝ) : EReal)

/-- `v` holds the nearest cells. -/
abbrev Nearest (v : IVec S256x1 32) (y x : Fin 256 → ℝ) : Prop := ∀ r, v (ix2 r 0) = BitVec.ofNat 32 (cellOf (y r) (x r) 0).val

theorem pay32_at (hn : Nearest v y x) (r : Fin 256) (c : Fin 1024) :
    k0_pay32 cols v (ix2 r c) = BitVec.ofBool (decide (c = cellOf (y r) (x r) 0)) := by
  unfold k0_pay32
  pointwise
  rw [hn]
  exact hit_word _ _

theorem pay33_at (hw : Gaps w y x) (hn : Nearest v y x) (r : Fin 256) (c : Fin 1024) :
    k0_pay33 cols w v (ix2 r c) = ((masked big (dist (y r) (x r)) (before (y r) (x r) 1) c : ℝ) : EReal) := by
  unfold k0_pay33
  pointwise
  rw [pay32_at hn, hw, ← masked_empty (dist (y r) (x r)), hide_word]
  rw [masked_empty]
  rfl

theorem pay34_at (hw : Gaps w y x) (hn : Nearest v y x) (r : Fin 256) (c : Fin 1024) :
    k0_pay34 cols w v (ix2 r c) = BitVec.ofBool (decide (c = cellOf (y r) (x r) 1)) := by
  have h := pay33_at hw hn
  unfold k0_pay34
  pointwise
  simp only [h, min_fold, arg_fold]
  exact hit_word _ _

theorem pay35_at (hw : Gaps w y x) (hn : Nearest v y x) (r : Fin 256) (c : Fin 1024) :
    k0_pay35 cols w v (ix2 r c) = ((masked big (dist (y r) (x r)) (before (y r) (x r) 2) c : ℝ) : EReal) := by
  unfold k0_pay35
  pointwise
  rw [pay34_at hw hn, pay33_at hw hn, hide_word]
  rfl

theorem pay36_at (hw : Gaps w y x) (hn : Nearest v y x) (r : Fin 256) (c : Fin 1024) :
    k0_pay36 cols w v (ix2 r c) = BitVec.ofBool (decide (c = cellOf (y r) (x r) 2)) := by
  have h := pay35_at hw hn
  unfold k0_pay36
  pointwise
  simp only [h, min_fold, arg_fold]
  exact hit_word _ _

theorem pay38_at (hw : Gaps w y x) (hn : Nearest v y x) (r : Fin 256) (c : Fin 1024) :
    k0_pay38 cols w v (ix2 r c) = BitVec.ofBool (decide (c = cellOf (y r) (x r) 3)) := by
  have h := pay35_at hw hn
  have h' := pay36_at hw hn
  unfold k0_pay38
  pointwise
  simp only [h, h', hide_word, min_fold, arg_fold]
  exact hit_word _ _

theorem pay37_at (hw : Gaps w y x) (hn : Nearest v y x) (hs : ∀ r c, s (ix2 r c) = ((sim (a r) b c : ℝ) : EReal)) (r : Fin 256) (c : Fin 1024) :
    k0_pay37 cols s w v (ix2 r c) = ((masked big (sim (a r) b) (before (y r) (x r) 3) c : ℝ) : EReal) := by
  unfold k0_pay37
  pointwise
  rw [pay32_at hn, pay34_at hw hn, pay36_at hw hn, hs, ← masked_empty (sim (a r) b), hide_word, hide_word, hide_word, masked_empty]
  rfl

end Rounds

/-! ## The least descriptor distances -/

section Negatives

variable {p : FVec Ideal S256x1 .f32} {w : FVec Ideal S256x1024 .f32} {u : IVec S256x1024 1}
variable {a : Fin 256 → Fin 192 → ℝ} {b : Fin 1024 → Fin 192 → ℝ} {P : Fin 256 → ℝ}

/-- The descriptor distances with the nearest cells and those of the rounds before `k` hidden. -/
abbrev left (y x : ℝ) (a : Fin 192 → ℝ) (b : Fin 1024 → Fin 192 → ℝ) (k : ℕ) : Fin 1024 → ℝ :=
  masked big (sim a b) (hidden big (sim a b) (near y x) k)

/-- The least of them. -/
abbrev least (y x : ℝ) (a : Fin 192 → ℝ) (b : Fin 1024 → Fin 192 → ℝ) (k : ℕ) : ℝ := left y x a b k (pick (left y x a b k))

/-- The term of the loss that round `k` gives. -/
abbrev term (y x : ℝ) (a : Fin 192 → ℝ) (b : Fin 1024 → Fin 192 → ℝ) (P : ℝ) (k : ℕ) : ℝ := max (P - least y x a b k + 1) 0

/-- `w` holds the descriptor distances with the first three nearest cells hidden. -/
abbrev Sims (w : FVec Ideal S256x1024 .f32) (y x : Fin 256 → ℝ) (a : Fin 256 → Fin 192 → ℝ) (b : Fin 1024 → Fin 192 → ℝ) : Prop :=
  ∀ r c, w (ix2 r c) = ((masked big (sim (a r) b) (before (y r) (x r) 3) c : ℝ) : EReal)

/-- `u` marks the fourth nearest cell. -/
abbrev Fourth (u : IVec S256x1024 1) (y x : Fin 256 → ℝ) : Prop := ∀ r c, u (ix2 r c) = BitVec.ofBool (decide (c = cellOf (y r) (x r) 3))

theorem term_coe (P v : ℝ) : max ((P : EReal) - (v : EReal) + 1) 0 = ((max (P - v + 1) 0 : ℝ) : EReal) := by
  rw [← EReal.coe_one, ← EReal.coe_zero, ← EReal.coe_sub, ← EReal.coe_add, max_coe]

theorem pay39_at (hw : Sims w y x a b) (hu : Fourth u y x) (r : Fin 256) (c : Fin 1024) :
    k0_pay39 w u (Ideal.ofBits .f32 0x7149F2CA#32) (ix2 r c) = ((left (y r) (x r) (a r) b 0 c : ℝ) : EReal) := by
  unfold k0_pay39
  pointwise
  rw [hu, hw, hide_word]
  rfl

theorem pay40_at (hw : Sims w y x a b) (hu : Fourth u y x) (r : Fin 256) :
    k0_pay40 w u (Ideal.ofBits .f32 0x7149F2CA#32) (ix2 r 0) = ((least (y r) (x r) (a r) b 0 : ℝ) : EReal) := by
  have h := pay39_at hw hu
  unfold k0_pay40
  pointwise
  simp only [h, min_fold]

theorem pay41_at (hw : Sims w y x a b) (hu : Fourth u y x) (r : Fin 256) (c : Fin 1024) :
    k0_pay41 cols w u (Ideal.ofBits .f32 0x7149F2CA#32) (ix2 r c) = ((left (y r) (x r) (a r) b 1 c : ℝ) : EReal) := by
  have h := pay39_at hw hu
  have h' := pay40_at hw hu
  unfold k0_pay41
  pointwise
  simp only [h, h', arg_fold, hit_word, hide_word]
  rfl

theorem pay43_eq (hp : Holds p P) (hw : Sims w y x a b) (hu : Fourth u y x) :
    k0_pay43 cols p w u (Ideal.ofBits .f32 0x7149F2CA#32)
      = ((∑ r, term (y r) (x r) (a r) b (P r) 0 + ∑ r, term (y r) (x r) (a r) b (P r) 1 : ℝ) : EReal) := by
  have h := pay40_at hw hu
  have h' := pay41_at hw hu
  unfold k0_pay43 k0_pay42
  pointwise
  simp only [Finset.univ_unique, Finset.sum_singleton, hp _, h, h', min_fold, term_coe, sum_coe, ← EReal.coe_add]

theorem pay44_at (hw : Sims w y x a b) (hu : Fourth u y x) (r : Fin 256) (c : Fin 1024) :
    k0_pay44 cols w u (Ideal.ofBits .f32 0x7149F2CA#32) (ix2 r c) = BitVec.ofBool (decide (c = pick (left (y r) (x r) (a r) b 1))) := by
  have h' := pay41_at hw hu
  unfold k0_pay44 k0_pay42
  pointwise
  simp only [h', min_fold, arg_fold, hit_word]

theorem pay46_eq {u : IVec S256x1024 1} (hp : Holds p P) (hw : ∀ r c, w (ix2 r c) = ((left (y r) (x r) (a r) b 1 c : ℝ) : EReal))
    (hu : ∀ r c, u (ix2 r c) = BitVec.ofBool (decide (c = pick (left (y r) (x r) (a r) b 1)))) (t : ℝ) :
    k0_pay46 cols p w (t : EReal) u k0_pay45
      = ((t + ∑ r, term (y r) (x r) (a r) b (P r) 2 + ∑ r, term (y r) (x r) (a r) b (P r) 3 : ℝ) : EReal) := by
  unfold k0_pay46 k0_pay45
  pointwise
  simp only [Finset.univ_unique, Finset.sum_singleton, hp _, hu, hw, hide_word, min_fold, arg_fold, hit_word, term_coe, sum_coe,
    ← EReal.coe_add]
  rfl

theorem pay47_eq (hp : Holds p P) : k0_pay47 p = ((∑ r, P r : ℝ) : EReal) := by
  unfold k0_pay47
  pointwise
  simp only [Finset.univ_unique, Finset.sum_singleton, hp _, sum_coe]

end Negatives

end Cert.KernelIdeal.Row

end
-- ==== Proof.KernelValue.lean ====
/-
  The kernel's two results at real numbers.
-/
module

public import proofs.«01_k».proof.Proof.KernelRow

@[expose] public section

set_option maxRecDepth 16384

noncomputable section

open Idealize.ShloMosaic Idealize.ShloMosaic.TcCoe

namespace Cert.KernelIdeal.Row

open Cert.KernelIdeal Cert.KernelIdeal.Gen Cert.KernelIdeal.Value Cert.Spec Cert.Consts Cert.Select

variable {y x : Fin 256 → ℝ}

/-! ## One grid point -/

theorem term_eq_hinge (y x : ℝ) (a : Fin 192 → ℝ) (b : Fin 1024 → Fin 192 → ℝ) (hs : ∀ c, sim a b c < big) (k : ℕ) (hk : k < 4) :
    term y x a b (positive y x a b) k = hinge y x a b k := by
  have hc : (near y x).card ≤ 4 := card_hidden_le big (dist y x) ∅ 4 |>.trans (by simp)
  unfold term least hinge negative
  have := round_value (big := big) (f := sim a b) (D := near y x) (fun p _ => hs p) (r := k) (by omega)
  rw [show left y x a b k (pick (left y x a b k)) = _ from this]

theorem loss_core {p : FVec Ideal S256x1 .f32} {w : FVec Ideal S256x1024 .f32} {u : IVec S256x1024 1} {a : Fin 256 → Fin 192 → ℝ}
    {b : Fin 1024 → Fin 192 → ℝ} (hp : Holds p fun r => positive (y r) (x r) (a r) b) (hw : Sims w y x a b) (hu : Fourth u y x)
    (hs : ∀ r c, sim (a r) b c < big) :
    k0_pay46 cols p (k0_pay41 cols w u (Ideal.ofBits .f32 0x7149F2CA#32)) (k0_pay43 cols p w u (Ideal.ofBits .f32 0x7149F2CA#32))
      (k0_pay44 cols w u (Ideal.ofBits .f32 0x7149F2CA#32)) k0_pay45 = ((∑ r, ∑ k : Fin 4, hinge (y r) (x r) (a r) b k : ℝ) : EReal) := by
  rw [pay43_eq hp hw hu, pay46_eq hp (pay41_at hw hu) (pay44_at hw hu)]
  have e : ∀ k, k < 4 → ∑ r, term (y r) (x r) (a r) b (positive (y r) (x r) (a r) b) k = ∑ r, hinge (y r) (x r) (a r) b k :=
    fun k hk => Finset.sum_congr rfl fun r _ => term_eq_hinge _ _ _ _ (hs r) k hk
  rw [e 0 (by omega), e 1 (by omega), e 2 (by omega), e 3 (by omega)]
  simp only [Fin.sum_univ_four, Finset.sum_add_distrib]
  rfl

theorem loss_eq (x0 : Vec Ideal S256x2 .f32) (x1 : Vec Ideal S256x192 .f32) (x2 : Vec Ideal S1024x192 .f32) (x3 : Vec Ideal S192x1024 .f32)
    (hy : Holds (yCol x0) y) (hx : Holds (xCol x0) x) {a : Fin 256 → Fin 192 → ℝ} {b : Fin 1024 → Fin 192 → ℝ}
    (ha : ∀ r k, x1 (ix2 r k) = ((a r k : ℝ) : EReal)) (hb : ∀ c k, x2 (ix2 c k) = ((b c k : ℝ) : EReal))
    (hb' : ∀ k c, x3 (ix2 k c) = ((b c k : ℝ) : EReal)) (hs : ∀ r c, sim (a r) b c < big) :
    loss x0 x1 x2 x3 = ((∑ r, ∑ k : Fin 4, hinge (y r) (x r) (a r) b k : ℝ) : EReal) :=
  loss_core (pos_at x0 x1 x2 hy hx ha hb) (pay37_at (gaps_at x0 hy hx) (nearest_at x0 hy hx) (sims_at x1 x3 ha hb'))
    (pay38_at (gaps_at x0 hy hx) (nearest_at x0 hy hx)) hs

theorem posSum_eq (x0 : Vec Ideal S256x2 .f32) (x1 : Vec Ideal S256x192 .f32) (x2 : Vec Ideal S1024x192 .f32)
    (hy : Holds (yCol x0) y) (hx : Holds (xCol x0) x) {a : Fin 256 → Fin 192 → ℝ} {b : Fin 1024 → Fin 192 → ℝ}
    (ha : ∀ r k, x1 (ix2 r k) = ((a r k : ℝ) : EReal)) (hb : ∀ c k, x2 (ix2 c k) = ((b c k : ℝ) : EReal)) :
    posSum x0 x1 x2 = ((∑ r, positive (y r) (x r) (a r) b : ℝ) : EReal) := pay47_eq (pos_at x0 x1 x2 hy hx ha hb)

/-! ## The two accumulators -/

theorem yCol_at (x0 : Vec Ideal S256x2 .f32) (r : Fin 256) : yCol x0 (ix2 r 0) = x0 (ix2 r 0) := by
  unfold yCol
  pointwise

theorem xCol_at (x0 : Vec Ideal S256x2 .f32) (r : Fin 256) : xCol x0 (ix2 r 0) = x0 (ix2 r 1) := by
  unfold xCol
  pointwise

theorem pay1_at (s : EReal) (v : FVec Ideal S1x1 .f32) : k0_pay1 (F := Ideal) s v (ix2 0 0) = v (ix2 0 0) + s := by
  unfold k0_pay1
  pointwise

theorem pay2_at (s : EReal) (v : FVec Ideal S1x1 .f32) : k0_pay2 (F := Ideal) s v (ix2 0 0) = v (ix2 0 0) + s := by
  unfold k0_pay2
  pointwise

theorem pay48_at : k0_pay48 (F := Ideal) (ix2 0 0) = 0 := by
  unfold k0_pay48
  pointwise

theorem pay49_at : k0_pay49 (F := Ideal) (ix2 0 0) = 0 := by
  unfold k0_pay49
  pointwise

/-- The arrays that the kernel reads hold real numbers. -/
structure Reals (m : (ℓ : Loc nD τ sig) → Buf (Elt Ideal) ℓ) (c : Dev nD) (P : Fin 1024 → Fin 2 → ℝ) (A B : Fin 1024 → Fin 192 → ℝ) : Prop where
  point : ∀ n j, m ((c.tc : Thread nD τ).loc main_arg1) (ix2 n j) = ((P n j : ℝ) : EReal)
  descriptor : ∀ n k, m ((c.tc : Thread nD τ).loc main_arg2) (ix2 n k) = ((A n k : ℝ) : EReal)
  cell : ∀ j k, m ((c.tc : Thread nD τ).loc main_arg3) (ix4 0 k ⟨j.val / 32, by omega⟩ ⟨j.val % 32, by omega⟩) = ((B j k : ℝ) : EReal)

variable {m : (ℓ : Loc nD τ sig) → Buf (Elt Ideal) ℓ} {c : Dev nD} {P : Fin 1024 → Fin 2 → ℝ} {A B : Fin 1024 → Fin 192 → ℝ}

theorem lossAt_eq (h : Reals m c P A B) (hs : ∀ n j, sim (A n) B j < big) (t : Fin cfg0.N) :
    lossAt m c t = ((∑ r, ∑ k : Fin 4, hinge (P (rowAt t r) 0) (P (rowAt t r) 1) (A (rowAt t r)) B k : ℝ) : EReal) :=
  loss_eq (y := fun r => P (rowAt t r) 0) (x := fun r => P (rowAt t r) 1) _ _ _ _
    (fun r => by rw [yCol_at, block_0, h.point]) (fun r => by rw [xCol_at, block_0, h.point])
    (fun r k => by rw [block_1, h.descriptor]) (fun j k => by rw [block_2, grid2_apply, h.cell])
    (fun k j => by rw [block_3, grid2_apply, h.cell]) (fun r => hs _)

theorem posSumAt_eq (h : Reals m c P A B) (t : Fin cfg0.N) :
    posSumAt m c t = ((∑ r, positive (P (rowAt t r) 0) (P (rowAt t r) 1) (A (rowAt t r)) B : ℝ) : EReal) :=
  posSum_eq (y := fun r => P (rowAt t r) 0) (x := fun r => P (rowAt t r) 1) _ _ _
    (fun r => by rw [yCol_at, block_0, h.point]) (fun r => by rw [xCol_at, block_0, h.point])
    (fun r k => by rw [block_1, h.descriptor]) (fun j k => by rw [block_2, grid2_apply, h.cell])

/-- The four blocks hold every row once. -/
theorem rows_sum (f : Fin 1024 → ℝ) :
    0 + (∑ r, f (rowAt t0_0 r)) + (∑ r, f (rowAt t0_1 r)) + (∑ r, f (rowAt t0_2 r)) + (∑ r, f (rowAt t0_3 r)) = ∑ n, f n := by
  rw [← Equiv.sum_comp (finProdFinEquiv (m := 4) (n := 256)) f, Fintype.sum_prod_type, Fin.sum_univ_four, zero_add]
  have e : ∀ (t : Fin cfg0.N) (q : Fin 4), t.val = q.val → ∑ r, f (rowAt t r) = ∑ r, f (finProdFinEquiv (q, r)) :=
    fun t q hq => Finset.sum_congr rfl fun r _ => congrArg f (Fin.ext (by
      show 256 * t.val + r.val = r.val + 256 * q.val
      omega))
  rw [e t0_0 0 rfl, e t0_1 1 rfl, e t0_2 2 rfl, e t0_3 3 rfl]

theorem pay1_four (s0 s1 s2 s3 : ℝ) :
    k0_pay1 (F := Ideal) (s3 : EReal) (k0_pay1 (F := Ideal) (s2 : EReal) (k0_pay1 (F := Ideal) (s1 : EReal) (k0_pay1 (F := Ideal) (s0 : EReal) (k0_pay48 (F := Ideal))))) (ix2 0 0)
      = ((0 + s0 + s1 + s2 + s3 : ℝ) : EReal) := by
  rw [pay1_at, pay1_at, pay1_at, pay1_at, pay48_at, ← EReal.coe_zero, ← EReal.coe_add, ← EReal.coe_add, ← EReal.coe_add, ← EReal.coe_add]

theorem pay2_four (s0 s1 s2 s3 : ℝ) :
    k0_pay2 (F := Ideal) (s3 : EReal) (k0_pay2 (F := Ideal) (s2 : EReal) (k0_pay2 (F := Ideal) (s1 : EReal) (k0_pay2 (F := Ideal) (s0 : EReal) (k0_pay49 (F := Ideal))))) (ix2 0 0)
      = ((0 + s0 + s1 + s2 + s3 : ℝ) : EReal) := by
  rw [pay2_at, pay2_at, pay2_at, pay2_at, pay49_at, ← EReal.coe_zero, ← EReal.coe_add, ← EReal.coe_add, ← EReal.coe_add, ← EReal.coe_add]

theorem last_fst : (last m c).1
    = k0_pay1 (lossAt m c t0_3) (k0_pay1 (lossAt m c t0_2) (k0_pay1 (lossAt m c t0_1) (k0_pay1 (lossAt m c t0_0) (k0_pay48 (F := Ideal))))) := rfl

theorem last_snd : (last m c).2
    = k0_pay2 (posSumAt m c t0_3) (k0_pay2 (posSumAt m c t0_2) (k0_pay2 (posSumAt m c t0_1) (k0_pay2 (posSumAt m c t0_0) (k0_pay49 (F := Ideal))))) := rfl

theorem last_1 (h : Reals m c P A B) (hs : ∀ n j, sim (A n) B j < big) (i : S1x1.Idx) :
    (last m c).1 i = ((∑ n, ∑ k : Fin 4, hinge (P n 0) (P n 1) (A n) B k : ℝ) : EReal) := by
  rw [idx_one i (ix2 0 0), ← rows_sum, last_fst, lossAt_eq h hs, lossAt_eq h hs, lossAt_eq h hs, lossAt_eq h hs]
  exact pay1_four _ _ _ _

theorem last_2 (h : Reals m c P A B) (i : S1x1.Idx) :
    (last m c).2 i = ((∑ n, positive (P n 0) (P n 1) (A n) B : ℝ) : EReal) := by
  rw [idx_one i (ix2 0 0), ← rows_sum, last_snd, posSumAt_eq h, posSumAt_eq h, posSumAt_eq h, posSumAt_eq h]
  exact pay2_four _ _ _ _

/-! ## The two results -/

theorem value_1 (h : Reals m c P A B) (hs : ∀ n j, sim (A n) B j < big) (i : S_.Idx) :
    Host.divf (F := Ideal) (shapeCast S_ (last m c).1 shapeCasts_S1x1_S_) (constant S_ .f32 0x45800000#32) i
      = (((∑ n, ∑ k : Fin 4, hinge (P n 0) (P n 1) (A n) B k) / 4096 : ℝ) : EReal) := by
  show Ideal.div ((last m c).1 _) (Ideal.ofBits .f32 0x45800000#32) = _
  rw [last_1 h hs, lit_4096, div_real (by norm_num)]

theorem value_2 (h : Reals m c P A B) (i : S_.Idx) :
    Host.divf (F := Ideal) (shapeCast S_ (last m c).2 shapeCasts_S1x1_S_) (constant S_ .f32 0x44800000#32) i
      = (((∑ n, positive (P n 0) (P n 1) (A n) B) / 1024 : ℝ) : EReal) := by
  show Ideal.div ((last m c).2 _) (Ideal.ofBits .f32 0x44800000#32) = _
  rw [last_2 h, lit_1024, div_real (by norm_num)]

/-- The kernel's run, its results as real numbers. -/
theorem run (m : (ℓ : Loc nD τ sig) → Buf (Elt Ideal) ℓ) (ρ : Dev nD → PrngReg) (P : Dev nD → Fin 1024 → Fin 2 → ℝ)
    (A B : Dev nD → Fin 1024 → Fin 192 → ℝ) (h : ∀ c, Reals m c (P c) (A c) (B c)) (hs : ∀ c n j, sim (A c n) (B c) j < big) :
    θ_run (defs (F := Ideal)) (onTc (τ := τ) (main (F := Ideal))) ⟨m, fun _ => 0, ρ⟩ fun r => ∀ c : Dev nD,
      r.2.mem ((c.tc : Thread nD τ).loc main_v3_0) = (fun _ => ((loss (P c) (A c) (B c) : ℝ) : EReal) : S_.Idx → EReal)
      ∧ r.2.mem ((c.tc : Thread nD τ).loc main_v3_1) = (fun _ => ((mean (P c) (A c) (B c) : ℝ) : EReal) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ e c => ⟨(e c).1.trans (funext (value_1 (h c) (hs c))), (e c).2.1.trans (funext (value_2 (h c))), (e c).2.2⟩) (Value.run m ρ)

end Cert.KernelIdeal.Row

end
-- ==== Proof.RefBase.lean ====
/-
  The reference's first steps, read at an index at real numbers.
-/
module

public import proofs.«01_k».proof.Proof.Spec
public import proofs.«01_k».proof.Proof.Gen.ReferenceIdeal.Run
public import Idealize.ShloMosaic.Lib.Pointwise

@[expose] public section

set_option maxRecDepth 16384

noncomputable section

open Idealize.ShloMosaic Idealize.ShloMosaic.TcCoe

namespace Cert.ReferenceIdeal.Row

open Cert.ReferenceIdeal Cert.ReferenceIdeal.Gen Cert.ReferenceIdeal.Value Cert.Spec Cert.Consts Cert.Select

/-- The arrays that the reference reads hold real numbers. -/
structure Reals (V : Valuation τ sig (Elt Ideal)) (P : Fin 1024 → Fin 2 → ℝ) (A B : Fin 1024 → Fin 192 → ℝ) : Prop where
  point : ∀ n j, (V (Proc.devRef .tc main_arg1) : S1024x2.Idx → EReal) (ix2 n j) = ((P n j : ℝ) : EReal)
  descriptor : ∀ n k, (V (Proc.devRef .tc main_arg2) : S1024x192.Idx → EReal) (ix2 n k) = ((A n k : ℝ) : EReal)
  cell : ∀ (j : Fin 1024) k, (V (Proc.devRef .tc main_arg3) : S1x192x32x32.Idx → EReal) (ix4 0 k ⟨j.val / 32, by omega⟩ ⟨j.val % 32, by omega⟩) = ((B j k : ℝ) : EReal)

variable {V : Valuation τ sig (Elt Ideal)} {P : Fin 1024 → Fin 2 → ℝ} {A B : Fin 1024 → Fin 192 → ℝ}

theorem div_16 (p : ℝ) :
    Ideal.div (p : EReal) (Ideal.ofBits .f32 0x41800000#32) - Ideal.ofBits .f32 0x3F000000#32 = ((frac p : ℝ) : EReal) := by
  rw [lit_16, lit_half, div_real (by norm_num), ← EReal.coe_sub]
  exact congrArg _ (congrArg (· - _) (div_eq_mul_one_div _ _))

theorem v6_at (h : Reals V P A B) (n : Fin 1024) : (res_main_v6 V : S1024.Idx → EReal) (ix1 n) = ((frac (P n 0) : ℝ) : EReal) := by
  have hp := h.point n 0
  unfold res_main_v6
  revert hp
  generalize V (Proc.devRef .tc main_arg1) = x
  intro hp
  pointwise
  rw [hp, div_16]

theorem v12_at (h : Reals V P A B) (n : Fin 1024) : (res_main_v12 V : S1024.Idx → EReal) (ix1 n) = ((frac (P n 1) : ℝ) : EReal) := by
  have hp := h.point n 1
  unfold res_main_v12
  revert hp
  generalize V (Proc.devRef .tc main_arg1) = x
  intro hp
  pointwise
  rw [hp, div_16]

theorem v13_at (h : Reals V P A B) (n : Fin 1024) : (res_main_v13 V : S1024.Idx → EReal) (ix1 n) = ((lo (P n 1) : ℝ) : EReal) := by
  have hp := v12_at h n
  unfold res_main_v13
  pointwise
  rw [hp]
  rfl

theorem v14_at (h : Reals V P A B) (n : Fin 1024) : (res_main_v14 V : S1024.Idx → EReal) (ix1 n) = ((lo (P n 0) : ℝ) : EReal) := by
  have hp := v6_at h n
  unfold res_main_v14
  pointwise
  rw [hp]
  rfl

theorem v16_at (h : Reals V P A B) (n : Fin 1024) : (res_main_v16 V : S1024.Idx → EReal) (ix1 n) = ((hi (P n 1) : ℝ) : EReal) := by
  have hp := v13_at h n
  unfold res_main_v16
  pointwise
  rw [hp]
  rfl

theorem v18_at (h : Reals V P A B) (n : Fin 1024) : (res_main_v18 V : S1024.Idx → EReal) (ix1 n) = ((hi (P n 0) : ℝ) : EReal) := by
  have hp := v14_at h n
  unfold res_main_v18
  pointwise
  rw [hp]
  rfl

theorem v19_at (h : Reals V P A B) (n : Fin 1024) : (res_main_v19 V : S1024.Idx → EReal) (ix1 n) = ((wHi (P n 1) : ℝ) : EReal) := by
  have hp := v12_at h n
  have hq := v13_at h n
  unfold res_main_v19
  pointwise
  rw [hp, hq]
  rfl

theorem v21_at (h : Reals V P A B) (n : Fin 1024) : (res_main_v21 V : S1024.Idx → EReal) (ix1 n) = ((wLo (P n 1) : ℝ) : EReal) := by
  have hp := v19_at h n
  unfold res_main_v21
  pointwise
  rw [hp]
  rfl

theorem v22_at (h : Reals V P A B) (n : Fin 1024) : (res_main_v22 V : S1024.Idx → EReal) (ix1 n) = ((wHi (P n 0) : ℝ) : EReal) := by
  have hp := v6_at h n
  have hq := v14_at h n
  unfold res_main_v22
  pointwise
  rw [hp, hq]
  rfl

theorem v24_at (h : Reals V P A B) (n : Fin 1024) : (res_main_v24 V : S1024.Idx → EReal) (ix1 n) = ((wLo (P n 0) : ℝ) : EReal) := by
  have hp := v22_at h n
  unfold res_main_v24
  pointwise
  rw [hp]
  rfl

/-- The word of a coordinate kept on the grid. -/
theorem clip_word (v : S1024.Idx → EReal) (n : Fin 1024) (p : ℝ) (hp : v (ix1 n) = ((p : ℝ) : EReal)) :
    fptosi (F := Ideal) (φ := .f32) 32 (minimumf (broadcastInDim S1024 ![] bcast_S_S1024 (sitofp .f32 (constantI S_ 32 31#32))) (maximumf (broadcastInDim S1024 ![] bcast_S_S1024 (sitofp .f32 (constantI S_ 32 0#32))) v)) (ix1 n)
      = BitVec.ofNat 32 (coord p).val := by
  pointwise
  rw [hp, show (31#32 : BitVec 32) = BitVec.ofNat 32 31 from rfl, show (0#32 : BitVec 32) = BitVec.ofNat 32 0 from rfl,
    sitofp_small (by norm_num), sitofp_small (by norm_num), max_coe, min_coe]
  have := fptosi_coord p
  push_cast
  exact this

/-- The two index words of a corner. -/
theorem corner_idx (u v : IVec S1024 32) (n : Fin 1024) (p q : Fin 32) (hp : u (ix1 n) = BitVec.ofNat 32 p.val) (hq : v (ix1 n) = BitVec.ofNat 32 q.val) :
    ∀ c : Fin 2, concatenate S1024x2 1 [⟨S1024x1, (broadcastInDim S1024x1 ![0] bcast_S1024_S1024x1_0 (select (cmpi .slt u (broadcastInDim S1024 ![] bcast_S_S1024 (constantI S_ 32 0#32))) (addi u (broadcastInDim S1024 ![] bcast_S_S1024 (constantI S_ 32 32#32))) u))⟩, ⟨S1024x1, (broadcastInDim S1024x1 ![0] bcast_S1024_S1024x1_0 (select (cmpi .slt v (broadcastInDim S1024 ![] bcast_S_S1024 (constantI S_ 32 0#32))) (addi v (broadcastInDim S1024 ![] bcast_S_S1024 (constantI S_ 32 32#32))) v))⟩] concatenates_S1024x1_S1024x1_S1024x2_d1 (ix2 n c)
      = BitVec.ofNat 32 (if c = 0 then p else q).val := by
  have hw : ∀ p : Fin 32, Scalar.select (IntOp.cmpi .slt (BitVec.ofNat 32 p.val) 0#32) (IntOp.addi (BitVec.ofNat 32 p.val) 32#32) (BitVec.ofNat 32 p.val)
      = BitVec.ofNat 32 p.val := by decide +kernel
  intro c
  pointwise
  rw [hp, hq, hw, hw]
  fin_cases c <;> rfl

/-- The words of an index read one cell of the grid. -/
theorem gather_at (x : S192x32x32.Idx → EReal) (idx : IVec S1024x2 32) (k : Fin 192) (n : Fin 1024) (p q : Fin 32)
    (h0 : idx (ix2 n 0) = BitVec.ofNat 32 p.val) (h1 : idx (ix2 n 1) = BitVec.ofNat 32 q.val) :
    Host.gather gather_S192x32x32_S1024x2_S192x1024_0_12_n_n_12_1_19211 x idx (ix2 k n) = x (ix3 k p q) := by
  have hw : ∀ p : Fin 32, min (BitVec.ofNat 32 p.val).toInt.toNat 31 = p.val := by decide +kernel
  have hsi : ∀ (c' : Fin gather_S192x32x32_S1024x2_S192x1024_0_12_n_n_12_1_19211.startIndexMap.length) (c : Fin 2), c'.val = c.val →
      gather_S192x32x32_S1024x2_S192x1024_0_12_n_n_12_1_19211.siIdx (ix2 k n) c' = ix2 n c := fun c' c h => by
    obtain rfl : c' = c := Fin.ext h
    funext b
    refine Fin.ext ?_
    match b with
    | ⟨0, _⟩ => rfl
    | ⟨1, _⟩ => rfl
  have hst : ∀ (a : Fin 3) (c : Fin 2) (p : Fin 32), gather_S192x32x32_S1024x2_S192x1024_0_12_n_n_12_1_19211.startIndexMap.idxOf a = c.val →
      S192x32x32.size a - gather_S192x32x32_S1024x2_S192x1024_0_12_n_n_12_1_19211.sliceSizes a = 31 →
      idx (ix2 n c) = BitVec.ofNat 32 p.val → a ∈ gather_S192x32x32_S1024x2_S192x1024_0_12_n_n_12_1_19211.startIndexMap →
      a ∉ gather_S192x32x32_S1024x2_S192x1024_0_12_n_n_12_1_19211.sKept →
      gather_S192x32x32_S1024x2_S192x1024_0_12_n_n_12_1_19211.start (ix2 k n) idx a
        + gather_S192x32x32_S1024x2_S192x1024_0_12_n_n_12_1_19211.batchCoord (ix2 k n) a
        + gather_S192x32x32_S1024x2_S192x1024_0_12_n_n_12_1_19211.offCoord (ix2 k n) a = p.val := by
    intro a c p hc hs hp hm hk
    rw [GatherDims.batchCoord_eq_zero _ _ _ List.not_mem_nil, GatherDims.offCoord_eq_zero _ _ _ hk]
    simp only [Nat.add_zero]
    unfold GatherDims.start
    rw [dif_pos hm, hs, hsi _ c hc, hp, hw]
  unfold Host.gather
  refine congrArg x (funext fun a => Fin.ext ?_)
  show gather_S192x32x32_S1024x2_S192x1024_0_12_n_n_12_1_19211.start (ix2 k n) idx a
    + gather_S192x32x32_S1024x2_S192x1024_0_12_n_n_12_1_19211.batchCoord (ix2 k n) a
    + gather_S192x32x32_S1024x2_S192x1024_0_12_n_n_12_1_19211.offCoord (ix2 k n) a = _
  match a with
  | ⟨0, _⟩ =>
    rw [GatherDims.batchCoord_eq_zero _ _ _ List.not_mem_nil]
    show gather_S192x32x32_S1024x2_S192x1024_0_12_n_n_12_1_19211.start (ix2 k n) idx (0 : Fin 3) + 0
      + gather_S192x32x32_S1024x2_S192x1024_0_12_n_n_12_1_19211.offCoord (ix2 k n) (0 : Fin 3) = k.val
    unfold GatherDims.start GatherDims.offCoord
    rw [dif_neg (show (0 : Fin 3) ∉ gather_S192x32x32_S1024x2_S192x1024_0_12_n_n_12_1_19211.startIndexMap by decide),
      dif_pos (show (0 : Fin 3) ∈ gather_S192x32x32_S1024x2_S192x1024_0_12_n_n_12_1_19211.sKept by decide)]
    exact Nat.zero_add _
  | ⟨1, _⟩ => exact hst 1 0 p (by decide) (by decide) h0 (by decide) (by decide)
  | ⟨2, _⟩ => exact hst 2 1 q (by decide) (by decide) h1 (by decide) (by decide)

theorem valid_word (p : Prop) [Decidable p] :
    (FloatOps.uitofp .f32 (BitVec.ofBool (decide p)) : Ideal .f32) = (((if p then 1 else 0 : ℝ)) : EReal) := by
  show ((((BitVec.ofBool (decide p)).toNat : ℕ) : ℝ) : EReal) = _
  by_cases h : p <;> simp [h]

/-- What one corner adds: the gathered descriptors, times whether the corner is on the grid, times its weight. -/
def cornerTerm (x : S192x32x32.Idx → EReal) (u v : IVec S1024 32) (fp fq w1 w2 : FVec Ideal S1024 .f32) : FVec Ideal S1024x192 .f32 :=
  mulf (mulf (transpose S1024x192 [1, 0] (Host.gather gather_S192x32x32_S1024x2_S192x1024_0_12_n_n_12_1_19211 x (concatenate S1024x2 1 [⟨S1024x1, (broadcastInDim S1024x1 ![0] bcast_S1024_S1024x1_0 (select (cmpi .slt u (broadcastInDim S1024 ![] bcast_S_S1024 (constantI S_ 32 0#32))) (addi u (broadcastInDim S1024 ![] bcast_S_S1024 (constantI S_ 32 32#32))) u))⟩, ⟨S1024x1, (broadcastInDim S1024x1 ![0] bcast_S1024_S1024x1_0 (select (cmpi .slt v (broadcastInDim S1024 ![] bcast_S_S1024 (constantI S_ 32 0#32))) (addi v (broadcastInDim S1024 ![] bcast_S_S1024 (constantI S_ 32 32#32))) v))⟩] concatenates_S1024x1_S1024x1_S1024x2_d1)) transposes_S192x1024_S1024x192_1_0) (broadcastInDim S1024x192 ![0, 1] bcast_S1024x1_S1024x192_0_1 (broadcastInDim S1024x1 ![0] bcast_S1024_S1024x1_0 (uitofp .f32 (andi (andi (andi (cmpf .oge fp (broadcastInDim S1024 ![] bcast_S_S1024 (constant S_ .f32 0x00000000#32))) (cmpf .ole fp (broadcastInDim S1024 ![] bcast_S_S1024 (constant S_ .f32 0x41F80000#32)))) (cmpf .oge fq (broadcastInDim S1024 ![] bcast_S_S1024 (constant S_ .f32 0x00000000#32)))) (cmpf .ole fq (broadcastInDim S1024 ![] bcast_S_S1024 (constant S_ .f32 0x41F80000#32)))))))) (broadcastInDim S1024x192 ![0, 1] bcast_S1024x1_S1024x192_0_1 (broadcastInDim S1024x1 ![0] bcast_S1024_S1024x1_0 (mulf w1 w2)))

theorem cornerTerm_at (x : S192x32x32.Idx → EReal) (u v : IVec S1024 32) (fp fq w1 w2 : FVec Ideal S1024 .f32) (n : Fin 1024) (k : Fin 192)
    {b : Fin 1024 → Fin 192 → ℝ} {p q a1 a2 : ℝ} (hx : ∀ j : Fin 1024, x (ix3 k ⟨j.val / 32, by omega⟩ ⟨j.val % 32, by omega⟩) = ((b j k : ℝ) : EReal))
    (hu : u (ix1 n) = BitVec.ofNat 32 (coord p).val) (hv : v (ix1 n) = BitVec.ofNat 32 (coord q).val)
    (hp : fp (ix1 n) = ((p : ℝ) : EReal)) (hq : fq (ix1 n) = ((q : ℝ) : EReal)) (h1 : w1 (ix1 n) = ((a1 : ℝ) : EReal)) (h2 : w2 (ix1 n) = ((a2 : ℝ) : EReal)) :
    cornerTerm x u v fp fq w1 w2 (ix2 n k) = ((corner p q (a1 * a2) * b (cell p q) k : ℝ) : EReal) := by
  have hi := corner_idx u v n (coord p) (coord q) hu hv
  unfold cornerTerm
  revert hi
  generalize concatenate S1024x2 1 _ _ = idx
  intro hi
  have hg := gather_at x idx k n (coord p) (coord q) (hi 0) (hi 1)
  revert hg
  generalize Host.gather _ x idx = g
  intro hg
  pointwise
  rw [hg, hp, hq, h1, h2]
  rw [inside_word]
  have e := hx (cell p q)
  have e1 : (⟨(cell p q).val / 32, by omega⟩ : Fin 32) = coord p := Fin.ext (by
    have := (coord q).isLt
    show (32 * (coord p).val + (coord q).val) / 32 = _
    omega)
  have e2 : (⟨(cell p q).val % 32, by omega⟩ : Fin 32) = coord q := Fin.ext (by
    have := (coord q).isLt
    show (32 * (coord p).val + (coord q).val) % 32 = _
    omega)
  rw [e1, e2] at e
  rw [e, valid_word, ← EReal.coe_mul, ← EReal.coe_mul, ← EReal.coe_mul]
  refine congrArg _ ?_
  unfold corner
  split_ifs <;> ring

theorem v0_at (h : Reals V P A B) (k : Fin 192) (j : Fin 1024) :
    (res_main_v0 V : S192x32x32.Idx → EReal) (ix3 k ⟨j.val / 32, by omega⟩ ⟨j.val % 32, by omega⟩) = ((B j k : ℝ) : EReal) := by
  have hp := h.cell j k
  unfold res_main_v0
  revert hp
  generalize V (Proc.devRef .tc main_arg3) = x
  intro hp
  pointwise
  exact hp

theorem v140_eq : (res_main_v140 V : S1024x192.Idx → EReal) = addf (F := Ideal) (φ := .f32)
    (addf (cornerTerm (res_main_v0 V) (res_main_v37 V) (res_main_v39 V) (res_main_v14 V) (res_main_v13 V) (res_main_v24 V) (res_main_v21 V))
      (cornerTerm (res_main_v0 V) (res_main_v75 V) (res_main_v77 V) (res_main_v14 V) (res_main_v16 V) (res_main_v24 V) (res_main_v19 V)))
    (cornerTerm (res_main_v0 V) (res_main_v114 V) (res_main_v116 V) (res_main_v18 V) (res_main_v13 V) (res_main_v22 V) (res_main_v21 V)) := rfl

theorem v179_eq : (res_main_v179 V : S1024x192.Idx → EReal) = addf (F := Ideal) (φ := .f32) (res_main_v140 V)
    (cornerTerm (res_main_v0 V) (res_main_v153 V) (res_main_v155 V) (res_main_v18 V) (res_main_v16 V) (res_main_v22 V) (res_main_v19 V)) := rfl

/-- The interpolated descriptors. -/
theorem v179_at (h : Reals V P A B) (n : Fin 1024) (k : Fin 192) :
    (res_main_v179 V : S1024x192.Idx → EReal) (ix2 n k) = ((sampled (P n 0) (P n 1) B k : ℝ) : EReal) := by
  have c1 := cornerTerm_at (res_main_v0 V) (res_main_v37 V) (res_main_v39 V) (res_main_v14 V) (res_main_v13 V) (res_main_v24 V) (res_main_v21 V) n k (v0_at h k)
    (clip_word _ n _ (v14_at h n)) (clip_word _ n _ (v13_at h n)) (v14_at h n) (v13_at h n) (v24_at h n) (v21_at h n)
  have c2 := cornerTerm_at (res_main_v0 V) (res_main_v75 V) (res_main_v77 V) (res_main_v14 V) (res_main_v16 V) (res_main_v24 V) (res_main_v19 V) n k (v0_at h k)
    (clip_word _ n _ (v14_at h n)) (clip_word _ n _ (v16_at h n)) (v14_at h n) (v16_at h n) (v24_at h n) (v19_at h n)
  have c3 := cornerTerm_at (res_main_v0 V) (res_main_v114 V) (res_main_v116 V) (res_main_v18 V) (res_main_v13 V) (res_main_v22 V) (res_main_v21 V) n k (v0_at h k)
    (clip_word _ n _ (v18_at h n)) (clip_word _ n _ (v13_at h n)) (v18_at h n) (v13_at h n) (v22_at h n) (v21_at h n)
  have c4 := cornerTerm_at (res_main_v0 V) (res_main_v153 V) (res_main_v155 V) (res_main_v18 V) (res_main_v16 V) (res_main_v22 V) (res_main_v19 V) n k (v0_at h k)
    (clip_word _ n _ (v18_at h n)) (clip_word _ n _ (v16_at h n)) (v18_at h n) (v16_at h n) (v22_at h n) (v19_at h n)
  rw [v179_eq, v140_eq]
  show cornerTerm _ _ _ _ _ _ _ (ix2 n k) + cornerTerm _ _ _ _ _ _ _ (ix2 n k) + cornerTerm _ _ _ _ _ _ _ (ix2 n k) + cornerTerm _ _ _ _ _ _ _ (ix2 n k) = _
  rw [c1, c2, c3, c4, ← EReal.coe_add, ← EReal.coe_add, ← EReal.coe_add]
  rfl

/-- The positive distances, before they are repeated. -/
def single (V : Valuation τ sig (Elt Ideal)) : FVec Ideal S1024 .f32 :=
  subf (broadcastInDim S1024 ![] bcast_S_S1024 (constant S_ .f32 0x40000000#32)) (mulf (broadcastInDim S1024 ![] bcast_S_S1024 (constant S_ .f32 0x40000000#32)) (Host.reduceAdd (mulf (V (Proc.devRef .tc main_arg2)) (Host.divf (res_main_v179 V) (broadcastInDim S1024x192 ![0, 1] bcast_S1024x1_S1024x192_0_1 (maximumf (Host.sqrt (broadcastInDim S1024x1 ![0] bcast_S1024_S1024x1_0 (Host.reduceAdd (mulf (res_main_v179 V) (res_main_v179 V)) (constant S_ .f32 0x00000000#32) reducesTo_S1024x192_S1024_d1 h_S_))) (broadcastInDim S1024x1 ![] bcast_S_S1024x1 (constant S_ .f32 0x2B8CBCCC#32)))))) (constant S_ .f32 0x00000000#32) reducesTo_S1024x192_S1024_d1 h_S_))

theorem single_at (h : Reals V P A B) (n : Fin 1024) : single V (ix1 n) = ((positive (P n 0) (P n 1) (A n) B : ℝ) : EReal) := by
  have hs := v179_at h n
  have ha := h.descriptor n
  unfold single
  revert hs ha
  generalize V (Proc.devRef .tc main_arg2) = x
  generalize res_main_v179 V = y
  intro hs ha
  pointwise
  have hl := (len_pos (P n 0) (P n 1) B).ne'
  simp only [hs, ha, ← EReal.coe_mul, sum_coe]
  rw [sqrt_real (Finset.sum_nonneg fun _ _ => mul_self_nonneg _), lit_eps, lit_2, max_coe]
  change ((2 : ℝ) : EReal) - ((2 : ℝ) : EReal) * ∑ j, _ * Ideal.div _ ((len (P n 0) (P n 1) B : ℝ) : EReal) = _
  simp only [div_real hl, ← EReal.coe_mul, sum_coe, ← EReal.coe_sub]
  unfold positive
  rw [mul_div_assoc, Finset.sum_div]
  simp only [mul_div_assoc]

theorem repeat_apply (x : S1024.Idx → EReal) (i : Fin 4096) :
    shapeCast S4096 (shapeCast S1024x4 (broadcastInDim S1024x1x4 ![0, 1] bcast_S1024x1_S1024x1x4_0_1 (shapeCast S1024x1 x shapeCasts_S1024_S1024x1)) shapeCasts_S1024x1x4_S1024x4) shapeCasts_S1024x4_S4096 (ix1 i)
      = x (ix1 ⟨i.val / 4, by omega⟩) := by
  pointwise

theorem v194_at (h : Reals V P A B) (i : Fin 4096) :
    (res_main_v194 V : S4096.Idx → EReal) (ix1 i) = ((positive (P ⟨i.val / 4, by omega⟩ 0) (P ⟨i.val / 4, by omega⟩ 1) (A ⟨i.val / 4, by omega⟩) B : ℝ) : EReal) :=
  (repeat_apply (single V) i).trans (single_at h _)

end Cert.ReferenceIdeal.Row

end
-- ==== Proof.RefTop.lean ====
/-
  The reference's two selections, read at an index.
-/
module

public import proofs.«01_k».proof.Proof.RefBase
public import proofs.«01_k».proof.Proof.Select
public import Idealize.ShloMosaic.Lib.Routing.OpsPair
public import Idealize.ShloMosaic.Lib.Routing.OpsSet

@[expose] public section

set_option maxRecDepth 16384

noncomputable section

open Idealize.ShloMosaic Idealize.ShloMosaic.TcCoe

namespace Cert.ReferenceIdeal.Row

open Cert.ReferenceIdeal Cert.ReferenceIdeal.Gen Cert.ReferenceIdeal.Value Cert.Spec Cert.Consts Cert.Select

theorem along_row (n c k : Fin 1024) : Shape.Idx.along (ix2 n c : S1024x1024.Idx) 1 k = ix2 n k := by
  funext a
  match a with
  | ⟨0, _⟩ => rfl
  | ⟨1, _⟩ => rfl

theorem first_four {α : Type} (v : S1024x1024.Idx → α) (n : Fin 1024) (i : Fin 4) :
    extractStridedSlice S1024x4 (fun _ => 0) v sliceFits_S1024x1024_S1024x4 (ix2 n i) = v (ix2 n (i.castLE (by norm_num))) := by
  unfold extractStridedSlice
  refine congrArg v (funext fun a => ?_)
  match a with
  | ⟨0, _⟩ => exact Fin.ext (Nat.zero_add _)
  | ⟨1, _⟩ => exact Fin.ext (Nat.zero_add _)

theorem sort_row {α β : Type} (cmp : α × β → α × β → BitVec 1) (x : S1024x1024.Idx → α) (y : S1024x1024.Idx → β) (n c : Fin 1024) :
    (Host.sort2 S1024x1024 1 cmp x y).1 (ix2 n c)
        = x (ix2 n (sortedFrom (fun k k' => cmp (x (ix2 n k), y (ix2 n k)) (x (ix2 n k'), y (ix2 n k')) == 1#1) c))
      ∧ (Host.sort2 S1024x1024 1 cmp x y).2 (ix2 n c)
        = y (ix2 n (sortedFrom (fun k k' => cmp (x (ix2 n k), y (ix2 n k)) (x (ix2 n k'), y (ix2 n k')) == 1#1) c)) := by
  have e : (fun k k' : Fin 1024 => cmp (x (Shape.Idx.along (ix2 n c : S1024x1024.Idx) 1 k), y (Shape.Idx.along (ix2 n c : S1024x1024.Idx) 1 k))
      (x (Shape.Idx.along (ix2 n c : S1024x1024.Idx) 1 k'), y (Shape.Idx.along (ix2 n c : S1024x1024.Idx) 1 k')) == 1#1)
      = fun k k' => cmp (x (ix2 n k), y (ix2 n k)) (x (ix2 n k'), y (ix2 n k')) == 1#1 := by
    simp only [along_row]
  unfold Host.sort2
  rw [dif_pos (show 1 < S1024x1024.rank by decide)]
  rw [← e]
  constructor
  · exact congrArg x (along_row n c _)
  · exact congrArg y (along_row n c _)

/-- The four greatest of a row of negated values are the four least values, the earlier ones first. -/
theorem topK_at (x : S1024x1024.Idx → EReal) (n : Fin 1024) (g : Fin 1024 → ℝ) (hx : ∀ c, x (ix2 n c) = ((-g c : ℝ) : EReal)) :
    ∃ σ : Fin 4 → Fin 1024, Lists (key g) σ ∧ ∀ i : Fin 4,
      (Host.topK S1024x4 1 (FloatOps.cmpfTotal (F := Ideal) (φ := .f32) .gt) x sliceFits_S1024x1024_S1024x4).2 (ix2 n i) = BitVec.ofNat 32 (σ i).val
      ∧ (Host.topK S1024x4 1 (FloatOps.cmpfTotal (F := Ideal) (φ := .f32) .gt) x sliceFits_S1024x1024_S1024x4).1 (ix2 n i) = ((-g (σ i) : ℝ) : EReal) := by
  let B : Fin 1024 → Fin 1024 → Bool := fun k k' => (FloatOps.cmpfTotal (F := Ideal) (φ := .f32) .gt (x (ix2 n k)) (x (ix2 n k')) : BitVec 1) == 1#1
  have hB : ∀ p q, B p q = decide (g p < g q) := fun p q => by
    show ((FloatOps.cmpfTotal (F := Ideal) (φ := .f32) .gt (x (ix2 n p)) (x (ix2 n q)) : BitVec 1) == 1#1) = _
    rw [hx, hx]
    show (BitVec.ofBool (decide (((-g q : ℝ) : EReal) < ((-g p : ℝ) : EReal))) == 1#1) = _
    have e : (((-g q : ℝ) : EReal) < ((-g p : ℝ) : EReal)) ↔ g p < g q := EReal.coe_lt_coe_iff.trans neg_lt_neg_iff
    by_cases h : g p < g q
    · rw [decide_eq_true (e.mpr h), decide_eq_true h]; rfl
    · rw [decide_eq_false (fun h' => h (e.mp h')), decide_eq_false h]; rfl
  refine ⟨fun i => sortedFrom B (i.castLE (by norm_num)), lists_sortedFrom g B hB (by norm_num), fun i => ⟨?_, ?_⟩⟩
  · unfold Host.topK
    dsimp only
    rw [first_four, (sort_row _ x _ n _).2]
    rfl
  · unfold Host.topK
    dsimp only
    rw [first_four, (sort_row _ x _ n _).1, hx]

end Cert.ReferenceIdeal.Row

end
-- ==== Proof.RefSelect.lean ====
/-
  The reference's distances to the cells and its mask of the four nearest cells.
-/
module

public import proofs.«01_k».proof.Proof.RefTop

@[expose] public section

set_option maxRecDepth 16384

noncomputable section

open Idealize.ShloMosaic Idealize.ShloMosaic.TcCoe

namespace Cert.ReferenceIdeal.Row

open Cert.ReferenceIdeal Cert.ReferenceIdeal.Gen Cert.ReferenceIdeal.Value Cert.Spec Cert.Consts Cert.Select

variable {V : Valuation τ sig (Elt Ideal)} {P : Fin 1024 → Fin 2 → ℝ} {A B : Fin 1024 → Fin 192 → ℝ}

theorem v212_at (h : Reals V P A B) (n c : Fin 1024) :
    (res_main_v212 V : S1024x1024x2.Idx → EReal) (ix3 n c 0) = ((P n 1 - (((c.val % 32 : ℕ) : ℝ) * 16 + 8) : ℝ) : EReal)
      ∧ (res_main_v212 V : S1024x1024x2.Idx → EReal) (ix3 n c 1) = ((P n 0 - (((c.val / 32 : ℕ) : ℝ) * 16 + 8) : ℝ) : EReal) := by
  have hp := h.point n
  unfold res_main_v212
  revert hp
  generalize V (Proc.devRef .tc main_arg1) = x
  intro hp
  have hm : c.val % 32 < 2 ^ 31 := by omega
  have hd : c.val / 32 < 2 ^ 31 := by omega
  constructor
  · pointwise
    show HSub.hSub (α := EReal) (β := EReal) (γ := EReal) (x (ix2 n 1)) _ = _
    rw [hp 1, sitofp_small hm, lit_16, lit_8]
    simp only [EReal.coe_sub, EReal.coe_add, EReal.coe_mul]
  · pointwise
    show HSub.hSub (α := EReal) (β := EReal) (γ := EReal) (x (ix2 n 0)) _ = _
    rw [hp 0, sitofp_small hd, lit_16, lit_8]
    simp only [EReal.coe_sub, EReal.coe_add, EReal.coe_mul]

theorem v214_at (h : Reals V P A B) (n c : Fin 1024) :
    (res_main_v214 V : S1024x1024.Idx → EReal) (ix2 n c) = ((-dist (P n 0) (P n 1) c : ℝ) : EReal) := by
  have h0 := v212_at h n c
  unfold res_main_v214
  revert h0
  generalize res_main_v212 V = x
  intro h0
  pointwise
  rw [Fin.sum_univ_two, h0.1, h0.2, ← EReal.coe_mul, ← EReal.coe_mul, ← EReal.coe_add,
    sqrt_real (add_nonneg (mul_self_nonneg _) (mul_self_nonneg _)), ← EReal.coe_neg]
  rfl

theorem flat4 {α : Type} (x : S1024x4.Idx → α) (i : Fin 4096) :
    shapeCast S4096 x shapeCasts_S1024x4_S4096 (ix1 i) = x (ix2 ⟨i.val / 4, by omega⟩ ⟨i.val % 4, by omega⟩) := by
  pointwise

theorem v219_at (i : Fin 4096) : (res_main_v219 V : S4096.Idx → BitVec 32) (ix1 i) = BitVec.ofNat 32 (i.val / 4) := by
  unfold res_main_v219
  pointwise

/-- The words of the nearest cells. -/
theorem v221_at (h : Reals V P A B) (hd : ∀ n c, dist (P n 0) (P n 1) c < big) (n : Fin 1024) (k : Fin 4) :
    (res_main_v221 V : S4096.Idx → BitVec 32) (ix1 ⟨4 * n.val + k.val, by omega⟩)
      = BitVec.ofNat 32 (round big (dist (P n 0) (P n 1)) ∅ k).val := by
  obtain ⟨σ, hσ, hv⟩ := topK_at (res_main_v214 V) n (dist (P n 0) (P n 1)) (v214_at h n)
  have e : σ = fun k : Fin 4 => round big (dist (P n 0) (P n 1)) ∅ k :=
    hσ.eq (lists_round (fun p _ => hd n p) rfl (by omega))
  have hn : (⟨(4 * n.val + k.val) / 4, by omega⟩ : Fin 1024) = n := Fin.ext (by show (4 * n.val + k.val) / 4 = n.val; omega)
  have hk : (⟨(4 * n.val + k.val) % 4, by omega⟩ : Fin 4) = k := Fin.ext (by show (4 * n.val + k.val) % 4 = k.val; omega)
  unfold res_main_v221
  refine (flat4 _ _).trans ?_
  show (Host.topK _ _ _ _ _).2 (ix2 (⟨(4 * n.val + k.val) / 4, _⟩ : Fin 1024) (⟨(4 * n.val + k.val) % 4, _⟩ : Fin 4)) = _
  rw [hn, hk, (hv k).1, e]

/-- Update `i` of the mask lands at the row and the column its two words name. -/
theorem lands (idx : IVec S4096x2 32) (i : Fin 4096) (r c : Fin 1024) :
    scatter_S1024x1024_S4096x2_S4096_n_01_01_1.resultIdx? (ix1 i) idx = some (ix2 r c)
      ↔ (idx (ix2 i 0)).toInt = r.val ∧ (idx (ix2 i 1)).toInt = c.val := by
  have hsi : ∀ (c' : Fin scatter_S1024x1024_S4096x2_S4096_n_01_01_1.scatterDimsToOperandDims.length) (q : Fin 2), c'.val = q.val →
      scatter_S1024x1024_S4096x2_S4096_n_01_01_1.siIdx (ix1 i) c' = ix2 i q := fun c' q e => by
    obtain rfl : c' = q := Fin.ext e
    funext b
    refine Fin.ext ?_
    match b with
    | ⟨0, _⟩ => rfl
    | ⟨1, _⟩ => rfl
  have hst : ∀ q : Fin 2, scatter_S1024x1024_S4096x2_S4096_n_01_01_1.scatterDimsToOperandDims.idxOf q = q.val →
      q ∈ scatter_S1024x1024_S4096x2_S4096_n_01_01_1.scatterDimsToOperandDims →
      scatter_S1024x1024_S4096x2_S4096_n_01_01_1.start (ix1 i) idx q = (idx (ix2 i q)).toInt := fun q e hm => by
    unfold ScatterDims.start
    rw [dif_pos hm, hsi _ q e]
  have hw : ∀ q : Fin 2, scatter_S1024x1024_S4096x2_S4096_n_01_01_1.window (ix1 i) q = 0 := fun q => by
    unfold ScatterDims.window
    rw [dif_neg (by revert q; decide)]
  refine (Idealize.ShloMosaic.Routing.resultIdx?_ix2 _ _ _ _ _).trans ?_
  have h0 := hst 0 (by decide) (by decide)
  have h1 := hst 1 (by decide) (by decide)
  have w0 := hw 0
  have w1 := hw 1
  rw [h0, h1, w0, w1]
  omega

theorem toInt_small {n : ℕ} (h : n < 1024) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

theorem wrap_small {n : ℕ} (h : n < 1024) (a : BitVec 32) :
    Scalar.select (IntOp.cmpi .slt (BitVec.ofNat 32 n) 0#32) a (BitVec.ofNat 32 n) = BitVec.ofNat 32 n :=
  Idealize.ShloMosaic.Routing.wrap_of_lt _ _ (by rw [BitVec.toNat_ofNat, Nat.mod_eq_of_lt (by omega)]; omega)

/-- The two columns of words of the mask. -/
def pairs (r s : IVec S4096 32) : IVec S4096x2 32 :=
  concatenate S4096x2 1 [⟨S4096x1, (broadcastInDim S4096x1 ![0] bcast_S4096_S4096x1_0 (select (cmpi .slt r (broadcastInDim S4096 ![] bcast_S_S4096 (constantI S_ 32 0#32))) (addi r (broadcastInDim S4096 ![] bcast_S_S4096 (constantI S_ 32 1024#32))) r))⟩, ⟨S4096x1, (broadcastInDim S4096x1 ![0] bcast_S4096_S4096x1_0 (select (cmpi .slt s (broadcastInDim S4096 ![] bcast_S_S4096 (constantI S_ 32 0#32))) (addi s (broadcastInDim S4096 ![] bcast_S_S4096 (constantI S_ 32 1024#32))) s))⟩] concatenates_S4096x1_S4096x1_S4096x2_d1

theorem pairs_at (r s : IVec S4096 32) (i : Fin 4096) {a b : ℕ} (ha : a < 1024) (hb : b < 1024)
    (hr : r (ix1 i) = BitVec.ofNat 32 a) (hs : s (ix1 i) = BitVec.ofNat 32 b) :
    pairs r s (ix2 i 0) = BitVec.ofNat 32 a ∧ pairs r s (ix2 i 1) = BitVec.ofNat 32 b := by
  unfold pairs
  constructor
  · pointwise
    rw [hr]
    exact wrap_small ha _
  · pointwise
    rw [hs]
    exact wrap_small hb _

/-- The mask: one at the four nearest cells of each row, nothing elsewhere. -/
theorem mask_at (h : Reals V P A B) (hd : ∀ n c, dist (P n 0) (P n 1) c < big) (x0 : S1024x1024.Idx → EReal) (upd : S4096.Idx → EReal)
    (h0 : ∀ n c, x0 (ix2 n c) = 0) (h1 : ∀ i : Fin 4096, upd (ix1 i) = 1) (n c : Fin 1024) :
    Host.scatter scatter_S1024x1024_S4096x2_S4096_n_01_01_1 (fun _ b => b) x0 (pairs (res_main_v219 V) (res_main_v221 V)) upd (ix2 n c)
      = ((if c ∈ near (P n 0) (P n 1) then (1 : ℝ) else 0 : ℝ) : EReal) := by
  have hl : ∀ (m : Fin 1024) (k : Fin 4),
      scatter_S1024x1024_S4096x2_S4096_n_01_01_1.resultIdx? (ix1 ⟨4 * m.val + k.val, by omega⟩) (pairs (res_main_v219 V) (res_main_v221 V)) = some (ix2 n c)
        ↔ m = n ∧ round big (dist (P m 0) (P m 1)) ∅ k = c := fun m k => by
    have hp := pairs_at (res_main_v219 V) (res_main_v221 V) ⟨4 * m.val + k.val, by omega⟩ m.isLt (round big (dist (P m 0) (P m 1)) ∅ k).isLt
      ((v219_at _).trans (congrArg (BitVec.ofNat 32) (show (4 * m.val + k.val) / 4 = m.val by omega))) (v221_at h hd m k)
    rw [lands, hp.1, hp.2, toInt_small m.isLt, toInt_small (round big (dist (P m 0) (P m 1)) ∅ k).isLt, Fin.ext_iff, Fin.ext_iff]
    omega
  have hi : ∀ i : S4096.Idx, ∃ (m : Fin 1024) (k : Fin 4), i = ix1 ⟨4 * m.val + k.val, by omega⟩ := fun i => by
    have hlt : (i 0).val < 4096 := (i 0).isLt
    refine ⟨⟨(i 0).val / 4, by omega⟩, ⟨(i 0).val % 4, by omega⟩, funext fun a => ?_⟩
    match a with
    | ⟨0, _⟩ => exact Fin.ext (by show (i 0).val = 4 * ((i 0).val / 4) + (i 0).val % 4; omega)
  by_cases hc : c ∈ near (P n 0) (P n 1)
  · rw [if_pos hc]
    obtain hc' | ⟨s, hs, e⟩ := (mem_hidden _ _ _ _ _).mp hc
    · exact absurd hc' (Finset.notMem_empty c)
    · refine Idealize.ShloMosaic.Routing.scatter_set_hit _ _ _ _ _ _ (fun i _ => ?_) _ ((hl n ⟨s, hs⟩).mpr ⟨rfl, e⟩)
      obtain ⟨m, k, rfl⟩ := hi i
      exact h1 _
  · rw [if_neg hc, Idealize.ShloMosaic.Routing.scatter_set_miss _ _ _ _ _ fun i e => ?_, h0]
    · rfl
    · obtain ⟨m, k, rfl⟩ := hi i
      obtain ⟨rfl, e'⟩ := (hl m k).mp e
      exact hc ((mem_hidden _ _ _ _ _).mpr (Or.inr ⟨k, k.isLt, e'⟩))

/-- The negated distances over a mask `w`, at row `n` and cell `c`. -/
theorem raised_at (x : FVec Ideal S1024x192 .f32) (y : FVec Ideal S1x192x32x32 .f32) (w : FVec Ideal S1024x1024 .f32) (n c : Fin 1024)
    (a b : Fin 192 → ℝ) (p : Prop) [Decidable p] (ha : ∀ k, x (ix2 n k) = (a k : EReal))
    (hb : ∀ k, y (ix4 0 k ⟨c.val / 32, by omega⟩ ⟨c.val % 32, by omega⟩) = (b k : EReal))
    (hw : w (ix2 n c) = ((if p then (1 : ℝ) else 0 : ℝ) : EReal)) :
    (Host.negf (F := Ideal) (φ := .f32) (addf (subf (broadcastInDim S1024x1024 ![] bcast_S_S1024x1024 (constant S_ .f32 0x40000000#32)) (Host.dotGeneral (F := Ideal) (φ₁ := .f32) (φ₂ := .f32) dot_S1024x192_S192x1024_S1024x1024_1_0_0_1_n_n none (mulf (broadcastInDim S1024x192 ![] bcast_S_S1024x192 (constant S_ .f32 0x40000000#32)) x) (transpose S192x1024 [1, 0] (shapeCast _ (transpose S1x32x32x192 [0, 2, 3, 1] y transposes_S1x192x32x32_S1x32x32x192_0_2_3_1) shapeCasts_S1x32x32x192_S1024x192) transposes_S1024x192_S192x1024_1_0))) (mulf w (broadcastInDim S1024x1024 ![] bcast_S_S1024x1024 (constant S_ .f32 0x40A00000#32)))) : S1024x1024.Idx → EReal) (ix2 n c)
      = ((-((2 - 2 * ∑ k, a k * b k) + (if p then 5 else 0)) : ℝ) : EReal) := by
  pointwise
  rw [hw, lit_2, lit_5]
  have e : ∀ k, ((2 : ℝ) : EReal) * x (ix2 n k) * y (ix4 0 k ⟨c.val / 32, by omega⟩ ⟨c.val % 32, by omega⟩) = ((2 * a k * b k : ℝ) : EReal) :=
    fun k => by rw [ha, hb, ← EReal.coe_mul, ← EReal.coe_mul]
  rw [Finset.sum_congr rfl fun k _ => e k, sum_coe, ← EReal.coe_mul, ← EReal.coe_sub, ← EReal.coe_add, ← EReal.coe_neg]
  congr 3
  · rw [Finset.mul_sum]
    congr 1
    exact Finset.sum_congr rfl fun k _ => mul_assoc _ _ _
  · split <;> norm_num

/-- The negated distances, the four nearest cells raised by five. -/
theorem v248_at (h : Reals V P A B) (hd : ∀ n c, dist (P n 0) (P n 1) c < big) (n c : Fin 1024) :
    (res_main_v248 V : S1024x1024.Idx → EReal) (ix2 n c)
      = ((-(sim (A n) B c + (if c ∈ near (P n 0) (P n 1) then 5 else 0)) : ℝ) : EReal) :=
  raised_at (V (Proc.devRef .tc main_arg2)) (V (Proc.devRef .tc main_arg3)) _ n c (A n) (B c) _ (h.descriptor n) (h.cell c)
    (mask_at h hd (broadcastInDim S1024x1024 ![] bcast_S_S1024x1024 (constant (F := Ideal) S_ .f32 0x00000000#32))
      (broadcastInDim S4096 ![] bcast_S_S4096 (constant (F := Ideal) S_ .f32 0x3F800000#32))
      (fun n c => by pointwise) (fun i => by pointwise) n c)

end Cert.ReferenceIdeal.Row

end
-- ==== Proof.RefLoss.lean ====
/-
  The reference's two results: the mean of the comparisons and the mean of the positive distances.
-/
module

public import proofs.«01_k».proof.Proof.RefSelect

@[expose] public section

set_option maxRecDepth 16384

noncomputable section

open Idealize.ShloMosaic Idealize.ShloMosaic.TcCoe Idealize.ShloMosaic.StableHlo

namespace Cert.ReferenceIdeal.Row

open Cert.ReferenceIdeal Cert.ReferenceIdeal.Gen Cert.ReferenceIdeal.Value Cert.Spec Cert.Consts Cert.Select

variable {V : Valuation τ sig (Elt Ideal)} {P : Fin 1024 → Fin 2 → ℝ} {A B : Fin 1024 → Fin 192 → ℝ}

/-- The `k`-th largest of the raised distances of row `n` is the kernel's `k`-th choice. -/
theorem negative_at (h : Reals V P A B) (hd : ∀ n c, dist (P n 0) (P n 1) c < big)
    (hs : ∀ n c, -(1 / 2) ≤ sim (A n) B c ∧ sim (A n) B c ≤ 9 / 2) (n : Fin 1024) (k : Fin 4) :
    (Host.topK S1024x4 1 (FloatOps.cmpfTotal (F := Ideal) (φ := .f32) .gt) (res_main_v248 V) sliceFits_S1024x1024_S1024x4).1 (ix2 n k)
      = ((-negative (P n 0) (P n 1) (A n) B k : ℝ) : EReal) := by
  obtain ⟨τ, hτ, hv⟩ := topK_at (res_main_v248 V) n _ (v248_at h hd n)
  have hc : (near (P n 0) (P n 1)).card ≤ 4 := card_hidden_le _ _ _ _
  have hbig : ∀ c, sim (A n) B c < big := fun c => lt_of_le_of_lt (hs n c).2 (by unfold big; norm_num)
  have hr := lists_round_of_raised (k := 4) (fun p _ => hbig p) (fun c => sim (A n) B c + (if c ∈ near (P n 0) (P n 1) then 5 else 0))
    (fun p hp => by simp only [if_neg hp, add_zero])
    (fun p q _ hq => by
      simp only [if_pos hq]
      have h1 := (hs n p).2
      have h2 := (hs n q).1
      linarith) (by omega : (near (P n 0) (P n 1)).card + 4 ≤ 1024)
  have e := (hτ.congr fun p q => le_of_key_le).value_eq hr k
  rw [(hv k).2]
  refine congrArg (fun r : ℝ => ((-r : ℝ) : EReal)) (e.trans ?_)
  have hn : round big (sim (A n) B) (near (P n 0) (P n 1)) k ∉ near (P n 0) (P n 1) := fun hm =>
    round_not_mem (r := k) (D := near (P n 0) (P n 1)) (fun p _ => hbig p) (by omega) ((mem_hidden _ _ _ _ _).mpr (Or.inl hm))
  show sim (A n) B _ + (if _ then _ else _) = _
  rw [if_neg hn, add_zero]
  rfl

/-- A sum over rows and choices, laid out in one line. -/
theorem sum_rows (f : Fin 1024 → Fin 4 → ℝ) :
    ∑ i : Fin 4096, f ⟨i.val / 4, by omega⟩ ⟨i.val % 4, by omega⟩ = ∑ n, ∑ k, f n k := by
  rw [← Equiv.sum_comp (finProdFinEquiv (m := 1024) (n := 4)), Fintype.sum_prod_type]
  refine Finset.sum_congr rfl fun n _ => Finset.sum_congr rfl fun k _ => ?_
  congr 1
  · exact Fin.ext (by show (k.val + 4 * n.val) / 4 = n.val; omega)
  · exact Fin.ext (by show (k.val + 4 * n.val) % 4 = k.val; omega)

/-- The comparisons' mean over a row of values `x` and a table of values `t`. -/
theorem mean_1 (x : FVec Ideal S4096 .f32) (t : FVec Ideal S1024x4 .f32) (f : Fin 1024 → ℝ) (g : Fin 1024 → Fin 4 → ℝ)
    (hx : ∀ i : Fin 4096, x (ix1 i) = ((f ⟨i.val / 4, by omega⟩ : ℝ) : EReal)) (ht : ∀ n k, t (ix2 n k) = ((-g n k : ℝ) : EReal)) (i : S_.Idx) :
    (mulf (Host.divf (Host.reduceAdd (maximumf (addf (subf x (shapeCast _ (Host.negf t) shapeCasts_S1024x4_S4096)) (broadcastInDim S4096 ![] bcast_S_S4096 (constant S_ .f32 0x3F800000#32))) (broadcastInDim S4096 ![] bcast_S_S4096 (constant S_ .f32 0x00000000#32))) (constant S_ .f32 0x00000000#32) reducesTo_S4096_S_d0 h_S_) (constant S_ .f32 0x45800000#32)) (constant S_ .f32 0x3F800000#32) : FVec Ideal S_ .f32) i
      = (((∑ n, ∑ k, max (f n - g n k + 1) 0) / 4096 : ℝ) : EReal) := by
  pointwise
  have e : ∀ j : Fin 4096, max (x (ix1 j) - -t (ix2 ⟨j.val / 4, by omega⟩ ⟨j.val % 4, by omega⟩) + 1 : EReal) 0
      = ((max (f ⟨j.val / 4, by omega⟩ - g ⟨j.val / 4, by omega⟩ ⟨j.val % 4, by omega⟩ + 1) 0 : ℝ) : EReal) := fun j => by
    rw [hx, ht, ← EReal.coe_neg, neg_neg, ← EReal.coe_sub, ← max_coe, EReal.coe_add]
    rfl
  refine (congrArg (fun s : EReal => Ideal.div s (Ideal.ofBits .f32 0x45800000#32)) (Finset.sum_congr rfl fun j _ => e j)).trans ?_
  show Ideal.div _ _ = _
  rw [sum_coe, lit_4096, div_real (by norm_num), sum_rows fun n k => max (f n - g n k + 1) 0]

theorem mean_2 (x : FVec Ideal S4096 .f32) (f : Fin 1024 → ℝ)
    (hx : ∀ i : Fin 4096, x (ix1 i) = ((f ⟨i.val / 4, by omega⟩ : ℝ) : EReal)) (i : S_.Idx) :
    (Host.divf (Host.reduceAdd x (constant S_ .f32 0x00000000#32) reducesTo_S4096_S_d0 h_S_) (constant S_ .f32 0x45800000#32) : FVec Ideal S_ .f32) i
      = (((∑ n, f n) / 1024 : ℝ) : EReal) := by
  pointwise
  refine (congrArg (fun s : EReal => Ideal.div s (Ideal.ofBits .f32 0x45800000#32)) (Finset.sum_congr rfl fun j _ => hx j)).trans ?_
  show Ideal.div _ _ = _
  rw [sum_coe, lit_4096, div_real (by norm_num), sum_rows fun n _ => f n]
  simp only [Finset.sum_const, Finset.card_univ, Fintype.card_fin, nsmul_eq_mul, ← Finset.mul_sum]
  congr 1
  push_cast
  ring

/-- The first result. -/
theorem value_1 (h : Reals V P A B) (hd : ∀ n c, dist (P n 0) (P n 1) c < big)
    (hs : ∀ n c, -(1 / 2) ≤ sim (A n) B c ∧ sim (A n) B c ≤ 9 / 2) (i : S_.Idx) :
    (mulf (Host.divf (Host.reduceAdd (maximumf (addf (subf (res_main_v194 V) (shapeCast _ (Host.negf ((Host.topK S1024x4 1 (FloatOps.cmpfTotal .gt) (res_main_v248 V) sliceFits_S1024x1024_S1024x4).1)) shapeCasts_S1024x4_S4096)) (broadcastInDim S4096 ![] bcast_S_S4096 (constant S_ .f32 0x3F800000#32))) (broadcastInDim S4096 ![] bcast_S_S4096 (constant S_ .f32 0x00000000#32))) (constant S_ .f32 0x00000000#32) reducesTo_S4096_S_d0 h_S_) (constant S_ .f32 0x45800000#32)) (constant S_ .f32 0x3F800000#32) : FVec Ideal S_ .f32) i
      = (((∑ n, ∑ k : Fin 4, hinge (P n 0) (P n 1) (A n) B k) / 4096 : ℝ) : EReal) :=
  mean_1 (res_main_v194 V) _ (fun n => positive (P n 0) (P n 1) (A n) B) (fun n k => negative (P n 0) (P n 1) (A n) B k)
    (v194_at h) (negative_at h hd hs) i

/-- The second result. -/
theorem value_2 (h : Reals V P A B) (i : S_.Idx) :
    (Host.divf (Host.reduceAdd (res_main_v194 V) (constant S_ .f32 0x00000000#32) reducesTo_S4096_S_d0 h_S_) (constant S_ .f32 0x45800000#32) : FVec Ideal S_ .f32) i
      = (((∑ n, positive (P n 0) (P n 1) (A n) B) / 1024 : ℝ) : EReal) :=
  mean_2 (res_main_v194 V) (fun n => positive (P n 0) (P n 1) (A n) B) (v194_at h) i

/-- The reference's run, its results as real numbers. -/
theorem run (m : (ℓ : Loc nD τ sig) → Buf (Elt Ideal) ℓ) (ρ : Dev nD → PrngReg) (P : Dev nD → Fin 1024 → Fin 2 → ℝ)
    (A B : Dev nD → Fin 1024 → Fin 192 → ℝ) (h : ∀ c, Reals (launchContents m c) (P c) (A c) (B c))
    (hd : ∀ c n j, dist (P c n 0) (P c n 1) j < big) (hs : ∀ c n j, -(1 / 2) ≤ sim (A c n) (B c) j ∧ sim (A c n) (B c) j ≤ 9 / 2) :
    θ_run (defs (F := Ideal)) (onTc (τ := τ) (main (F := Ideal))) ⟨m, fun _ => 0, ρ⟩ fun r => ∀ c : Dev nD,
      r.2.mem ((c.tc : Thread nD τ).loc main_v258) = (fun _ => ((loss (P c) (A c) (B c) : ℝ) : EReal) : S_.Idx → EReal)
      ∧ r.2.mem ((c.tc : Thread nD τ).loc main_v260) = (fun _ => ((mean (P c) (A c) (B c) : ℝ) : EReal) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ e c => ⟨(e c).1.trans (funext (value_1 (h c) (hd c) (hs c))), (e c).2.1.trans (funext (value_2 (h c))), (e c).2.2⟩)
    (Value.run m ρ)

/-- The launch's contents at arrays of real numbers. -/
theorem reals_launch (m : (ℓ : Loc nD τ sig) → Buf (Elt Ideal) ℓ) (c : Dev nD)
    (hP : ∀ n j, (m ((c.tc : Thread nD τ).loc main_arg1) : S1024x2.Idx → EReal) (ix2 n j) = ((P n j : ℝ) : EReal))
    (hA : ∀ n k, (m ((c.tc : Thread nD τ).loc main_arg2) : S1024x192.Idx → EReal) (ix2 n k) = ((A n k : ℝ) : EReal))
    (hB : ∀ (j : Fin 1024) k, (m ((c.tc : Thread nD τ).loc main_arg3) : S1x192x32x32.Idx → EReal) (ix4 0 k ⟨j.val / 32, by omega⟩ ⟨j.val % 32, by omega⟩) = ((B j k : ℝ) : EReal)) :
    Reals (launchContents m c) P A B := ⟨hP, hA, hB⟩

end Cert.ReferenceIdeal.Row

end
-- ==== Proof.PreFacts.lean ====
/-
  What the precondition says of the three arrays it reads: every element is a real number, the points are not too far out, and
  the distances between descriptors lie between `-1/2` and `9/2`.
-/
module

public import proofs.«01_k».proof.Pre_normalised
public import proofs.«01_k».proof.Proof.Spec
public import Idealize.ShloMosaic.Lib.ReduceAll
public import Idealize.ShloMosaic.Lib.Pointwise

@[expose] public section

set_option maxRecDepth 16384

noncomputable section

open Idealize.ShloMosaic Idealize.ShloMosaic.TcCoe

namespace Cert.Pre_normalised

open Cert.Spec Cert.Consts Facts

/-- Extended reals whose squares have a bounded sum are real. -/
theorem real_of_squares {N : ℕ} (f : Fin N → EReal) (h : ∑ k, f k * f k ≤ ((5 / 4 : ℝ) : EReal)) :
    ∃ a : Fin N → ℝ, (∀ k, f k = (a k : EReal)) ∧ ∑ k, a k * a k ≤ 5 / 4 := by
  have hn : ∀ x : EReal, 0 ≤ x * x := fun x => by
    induction x with
    | bot => rw [EReal.bot_mul_bot]; exact le_top
    | top => rw [EReal.top_mul_top]; exact le_top
    | coe r => rw [← EReal.coe_mul]; exact EReal.coe_nonneg.mpr (mul_self_nonneg r)
  have hk : ∀ k, f k = ((f k).toReal : EReal) := fun k => by
    have h1 : f k * f k ≤ ((5 / 4 : ℝ) : EReal) :=
      (Finset.single_le_sum (f := fun k => f k * f k) (fun i _ => hn (f i)) (Finset.mem_univ k)).trans h
    refine (EReal.coe_toReal (fun e => ?_) fun e => ?_).symm
    · rw [e, EReal.top_mul_top] at h1
      exact absurd h1 (not_le.mpr (EReal.coe_lt_top _))
    · rw [e, EReal.bot_mul_bot] at h1
      exact absurd h1 (not_le.mpr (EReal.coe_lt_top _))
  refine ⟨fun k => (f k).toReal, hk, ?_⟩
  have e : ∑ k, f k * f k = ((∑ k, (f k).toReal * (f k).toReal : ℝ) : EReal) := by
    rw [← sum_coe]
    exact Finset.sum_congr rfl fun k _ => by rw [EReal.coe_mul, ← hk k]
  rw [e] at h
  exact EReal.coe_le_coe_iff.mp h

/-- An extended real of bounded absolute value is real. -/
theorem real_of_abs (u : EReal) (e : max u (-u) ≤ (far : EReal)) : ∃ p : ℝ, u = (p : EReal) ∧ |p| ≤ far := by
  induction u with
  | bot => exact absurd ((le_max_right _ _).trans e) (not_le.mpr (by rw [EReal.neg_bot]; exact EReal.coe_lt_top _))
  | top => exact absurd ((le_max_left _ _).trans e) (not_le.mpr (EReal.coe_lt_top _))
  | coe r =>
    refine ⟨r, rfl, ?_⟩
    rw [← EReal.coe_neg, max_coe] at e
    exact EReal.coe_le_coe_iff.mp e

/-- The distance between two descriptors of bounded length. -/
theorem sim_bounds (a b : Fin 192 → ℝ) (ha : ∑ k, a k * a k ≤ 5 / 4) (hb : ∑ k, b k * b k ≤ 5 / 4) :
    -(1 / 2) ≤ 2 - 2 * ∑ k, a k * b k ∧ 2 - 2 * ∑ k, a k * b k ≤ 9 / 2 := by
  have h1 : 0 ≤ ∑ k, (a k - b k) * (a k - b k) := Finset.sum_nonneg fun k _ => mul_self_nonneg _
  have h2 : 0 ≤ ∑ k, (a k + b k) * (a k + b k) := Finset.sum_nonneg fun k _ => mul_self_nonneg _
  have e1 : ∑ k, (a k - b k) * (a k - b k) = ∑ k, a k * a k + ∑ k, b k * b k - 2 * ∑ k, a k * b k := by
    rw [Finset.mul_sum, ← Finset.sum_add_distrib, ← Finset.sum_sub_distrib]
    exact Finset.sum_congr rfl fun k _ => by ring
  have e2 : ∑ k, (a k + b k) * (a k + b k) = ∑ k, a k * a k + ∑ k, b k * b k + 2 * ∑ k, a k * b k := by
    rw [Finset.mul_sum, ← Finset.sum_add_distrib, ← Finset.sum_add_distrib]
    exact Finset.sum_congr rfl fun k _ => by ring
  constructor <;> linarith

/-- The distance of a point to a cell's centre. -/
theorem dist_lt_big (y x : ℝ) (hy : |y| ≤ far) (hx : |x| ≤ far) (c : Fin 1024) : dist y x c < big := by
  have h1 : ((c.val % 32 : ℕ) : ℝ) ≤ 31 := by exact_mod_cast (by omega : c.val % 32 ≤ 31)
  have h2 : ((c.val / 32 : ℕ) : ℝ) ≤ 31 := by have := c.isLt; exact_mod_cast (by omega : c.val / 32 ≤ 31)
  have h3 : (0 : ℝ) ≤ ((c.val % 32 : ℕ) : ℝ) := Nat.cast_nonneg _
  have h4 : (0 : ℝ) ≤ ((c.val / 32 : ℕ) : ℝ) := Nat.cast_nonneg _
  have hf : (504 : ℝ) ≤ far := by unfold far; norm_num
  have sq : ∀ x u : ℝ, |x| ≤ far → 0 ≤ u → u ≤ 31 → (x - (u * 16 + 8)) * (x - (u * 16 + 8)) ≤ (2 * far) * (2 * far) := fun x u hx h0 h1 => by
    have hb := abs_le.mp hx
    exact abs_le_iff_mul_self_le.mp (by
      rw [abs_of_nonneg (by linarith : (0 : ℝ) ≤ 2 * far)]
      exact abs_le.mpr ⟨by linarith, by linarith⟩)
  unfold Spec.dist
  rw [Real.sqrt_lt' big_pos]
  have e : (2 * far) * (2 * far) + (2 * far) * (2 * far) < big ^ 2 := by unfold far big; norm_num
  exact lt_of_le_of_lt (add_le_add (sq x _ hx h3 h1) (sq y _ hy h4 h2)) e

variable [Cert.Pre_normalised.Facts]

instance : Subsingleton S_.Idx := ⟨fun a b => funext fun i => i.elim0⟩

theorem of_word {p : Prop} [Decidable p] (h : BitVec.ofBool (decide p) = 1#1) : p := by
  by_contra hp
  rw [decide_eq_false hp] at h
  exact absurd h (by decide)

/-- The three conditions. -/
theorem read (x0 x1 : FVec Ideal S1024x2 .f32) (x2 : FVec Ideal S1024x192 .f32) (x3 : FVec Ideal S1x192x32x32 .f32)
    (h : fn (F := Ideal) x0 x1 x2 x3 = fun _ => 1#1) :
    (∀ n j, max (x1 (ix2 n j)) (-x1 (ix2 n j)) ≤ (far : EReal)) ∧ (∀ n, ∑ k, x2 (ix2 n k) * x2 (ix2 n k) ≤ ((5 / 4 : ℝ) : EReal))
      ∧ ∀ p q, ∑ k, x3 (ix4 0 k p q) * x3 (ix4 0 k p q) ≤ ((5 / 4 : ℝ) : EReal) := by
  have h := congrFun h ix0
  unfold fn at h
  obtain ⟨h, h3⟩ := IntOp.andi_eq_one.mp h
  obtain ⟨h1, h2⟩ := IntOp.andi_eq_one.mp h
  refine ⟨fun n j => ?_, fun n => ?_, fun p q => ?_⟩
  · have e := Host.reduce_andi_all _ _ _ _ _ h1 (ix2 n j)
    revert e
    pointwise
    rw [lit_far]
    exact of_word
  · have e := Host.reduce_andi_all _ _ _ _ _ h2 (ix1 n)
    revert e
    pointwise
    rw [lit_five_quarters]
    exact of_word
  · have e := Host.reduce_andi_all _ _ _ _ _ h3 (ix3 0 p q)
    revert e
    pointwise
    rw [lit_five_quarters]
    exact of_word

/-- The arrays as real numbers, with their bounds. -/
theorem reals (x0 x1 : FVec Ideal S1024x2 .f32) (x2 : FVec Ideal S1024x192 .f32) (x3 : FVec Ideal S1x192x32x32 .f32)
    (h : fn (F := Ideal) x0 x1 x2 x3 = fun _ => 1#1) :
    ∃ (P : Fin 1024 → Fin 2 → ℝ) (A B : Fin 1024 → Fin 192 → ℝ),
      ((∀ n j, x1 (ix2 n j) = (P n j : EReal)) ∧ (∀ n k, x2 (ix2 n k) = (A n k : EReal))
        ∧ ∀ (j : Fin 1024) (k : Fin 192), x3 (ix4 0 k ⟨j.val / 32, by omega⟩ ⟨j.val % 32, by omega⟩) = (B j k : EReal))
      ∧ (∀ n c, dist (P n 0) (P n 1) c < big) ∧ ∀ n c, -(1 / 2) ≤ sim (A n) B c ∧ sim (A n) B c ≤ 9 / 2 := by
  obtain ⟨h1, h2, h3⟩ := read x0 x1 x2 x3 h
  have hp := fun n j => real_of_abs _ (h1 n j)
  choose P hP hP' using hp
  choose A hA hA' using fun n => real_of_squares _ (h2 n)
  choose B hB hB' using fun j : Fin 1024 => real_of_squares _ (h3 ⟨j.val / 32, by omega⟩ ⟨j.val % 32, by omega⟩)
  exact ⟨P, A, B, ⟨hP, hA, hB⟩, fun n c => dist_lt_big _ _ (hP' n 0) (hP' n 1) c, fun n c => sim_bounds _ _ (hA' n) (hB' c)⟩

end Cert.Pre_normalised

end
-- ==== Proof.lean ====
/-
  The proof of the certificate's claims: the side conditions, the frames, and the equality of the kernel's two results with the
  reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_normalised
public import proofs.«01_k».proof.Proof.KernelValue
public import proofs.«01_k».proof.Proof.RefLoss
public import proofs.«01_k».proof.Proof.PreFacts
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Kernel

theorem frame_reference : Cert.quiescent_ReferenceIdeal := fun m ρ _ =>
  (θ_run Cert.ReferenceIdeal.defs _ _).mono (fun r h => ⟨fun c => (h c).2.2, sem_eq_zero_of_no_sems rfl r.2⟩)
    (Cert.ReferenceIdeal.Value.run m ρ)

theorem frame_reference_normalised : Cert.quiescent_ReferenceIdeal_pre_normalised := fun m ρ _ =>
  (θ_run Cert.ReferenceIdeal.defs _ _).mono (fun r h => ⟨fun c => (h c).2.2, sem_eq_zero_of_no_sems rfl r.2⟩)
    (Cert.ReferenceIdeal.Value.run m ρ)

/-- The two programs' results are the same. -/
theorem algebraic : Cert.algebraic_KernelIdeal_ReferenceIdeal_pre_normalised := by
  intro m g m' g' hpre hagree
  choose P A B hR hd hs using fun c => Cert.Pre_normalised.reals _ _ _ _ (hpre c)
  refine ⟨_, _,
    Cert.KernelIdeal.Row.run m g P A B (fun c => ⟨(hR c).1, (hR c).2.1, (hR c).2.2⟩)
      fun c n j => lt_of_le_of_lt (hs c n j).2 (by unfold Cert.Consts.big; norm_num),
    Cert.ReferenceIdeal.Row.run m' g' P A B (fun c => Cert.ReferenceIdeal.Row.reals_launch m' c ?_ ?_ ?_) hd hs⟩
  · rw [(hagree c).2.1]
    exact (hR c).1
  · rw [(hagree c).2.2.1]
    exact (hR c).2.1
  · rw [(hagree c).2.2.2]
    exact (hR c).2.2

theorem claim : Cert.Claim :=
  ⟨Cert.Kernel.Gen.facts, Cert.KernelIdeal.Gen.facts, Cert.ReferenceIdeal.Gen.facts, Cert.Pre_normalised.Gen.facts,
    fun m ρ _ => Cert.Kernel.Gen.frame m ρ, fun m ρ _ => Cert.KernelIdeal.Gen.frame m ρ,
    fun m ρ _ => Cert.KernelIdeal.Gen.frame m ρ, frame_reference, frame_reference_normalised, trivial, algebraic⟩

end Cert.Proof

end
